-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_sqrt_dh" .bf16 0x3DB5#16 (((Real.sqrt 128)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨2, ![2048, 256]⟩ ⟨2, ![16384, 256]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![2048, 256]⟩ ⟨2, ![16384, 256]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v37) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x1024 : Shape := ⟨2, ![512, 1024]⟩
abbrev S1024x1024 : Shape := ⟨2, ![1024, 1024]⟩
abbrev S2048x256 : Shape := ⟨2, ![2048, 256]⟩
abbrev S8x128x512 : Shape := ⟨3, ![8, 128, 512]⟩
abbrev S8x1x512 : Shape := ⟨3, ![8, 1, 512]⟩
abbrev S8 : Shape := ⟨1, ![8]⟩
abbrev S_ : Shape := ⟨0, ![]⟩
abbrev S512x128 : Shape := ⟨2, ![512, 128]⟩
abbrev S2048x128 : Shape := ⟨2, ![2048, 128]⟩
abbrev S2048x512 : Shape := ⟨2, ![2048, 512]⟩
abbrev S512 : Shape := ⟨1, ![512]⟩
abbrev S1x512 : Shape := ⟨2, ![1, 512]⟩
abbrev S128x512 : Shape := ⟨2, ![128, 512]⟩
abbrev S1x128x512 : Shape := ⟨3, ![1, 128, 512]⟩
abbrev S1x1x512 : Shape := ⟨3, ![1, 1, 512]⟩
abbrev S1 : Shape := ⟨1, ![1]⟩
abbrev S128x1024 : Shape := ⟨2, ![128, 1024]⟩

abbrev nBuf : Space → Nat
  | .hbm => 6
  | .vmem => 11
  | .smem => 0
  | _ => 0

abbrev bufTy : (tb : Table) → Fin (tcTables nBuf tb) → BufTy
  | .hbm, ⟨0, _⟩ => ⟨S512x1024, .bf16⟩
  | .hbm, ⟨1, _⟩ => ⟨S1024x1024, .bf16⟩
  | .hbm, ⟨2, _⟩ => ⟨S1024x1024, .bf16⟩
  | .hbm, ⟨3, _⟩ => ⟨S2048x256, .bf16⟩
  | .hbm, ⟨4, _⟩ => ⟨S2048x256, .bf16⟩
  | .hbm, ⟨5, _⟩ => ⟨S512x1024, .f32⟩
  | .local _ .vmem, ⟨0, _⟩ => ⟨S512x1024, .bf16⟩
  | .local _ .vmem, ⟨1, _⟩ => ⟨S1024x1024, .bf16⟩
  | .local _ .vmem, ⟨2, _⟩ => ⟨S1024x1024, .bf16⟩
  | .local _ .vmem, ⟨3, _⟩ => ⟨S2048x256, .bf16⟩
  | .local _ .vmem, ⟨4, _⟩ => ⟨S2048x256, .bf16⟩
  | .local _ .vmem, ⟨5, _⟩ => ⟨S512x1024, .f32⟩
  | .local _ .vmem, ⟨6, _⟩ => ⟨S8x128x512, .bf16⟩
  | .local _ .vmem, ⟨7, _⟩ => ⟨S8x1x512, .f32⟩
  | .local _ .vmem, ⟨8, _⟩ => ⟨S8x128x512, .bf16⟩
  | .local _ .vmem, ⟨9, _⟩ => ⟨S8x1x512, .f32⟩
  | .local _ .vmem, ⟨10, _⟩ => ⟨S8x128x512, .bf16⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  (ofTc nBuf bufTy 1 54 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_46 : BitVec 32 := 0#32
  let v60 : BitVec 1 := Scalar.cmpi .ne v2 c0_i32_46
  let v61 : BitVec 32 := Scalar.extui v60
  let c0_i32_47 : BitVec 32 := 0#32
  let v62 : BitVec 1 := Scalar.cmpi .ne v61 c0_i32_47
  v62

def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_473 : BitVec 32 := 0#32
  let c0_i32_474 : BitVec 32 := 0#32
  ![v2.toNat, 0, 0]
def k0_dev8 : Nat :=
  let c0_i32_472 : BitVec 32 := 0#32
  let c0_i32_470 : BitVec 32 := 0#32
  let c1_i32_471 : BitVec 32 := 1#32
  let v705 : BitVec 32 := Scalar.muli c0_i32_470 c1_i32_471
  let v706 : BitVec 32 := Scalar.addi c0_i32_472 v705
  v706.toNat
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_482 : BitVec 32 := 0#32
  let c0_i32_483 : BitVec 32 := 0#32
  ![v2.toNat, 0, 0]
def k0_dev9 : Nat :=
  let c0_i32_481 : BitVec 32 := 0#32
  let c0_i32_479 : BitVec 32 := 0#32
  let c1_i32_480 : BitVec 32 := 1#32
  let v715 : BitVec 32 := Scalar.muli c0_i32_479 c1_i32_480
  let v716 : BitVec 32 := Scalar.addi c0_i32_481 v715
  v716.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_56 : BitVec 32 := 1#32
  let v79 : BitVec 1 := Scalar.cmpi .ne v2 c1_i32_56
  let v80 : BitVec 32 := Scalar.extui v79
  let c0_i32_57 : BitVec 32 := 0#32
  let v81 : BitVec 1 := Scalar.cmpi .ne v80 c0_i32_57
  v81

def k0_off4 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_473 : BitVec 32 := 0#32
  let c0_i32_474 : BitVec 32 := 0#32
  ![v2.toNat, 0, 0]
def k0_dev10 : Nat :=
  let c0_i32_472 : BitVec 32 := 0#32
  let c1_i32_470 : BitVec 32 := 1#32
  let c1_i32_471 : BitVec 32 := 1#32
  let v705 : BitVec 32 := Scalar.muli c1_i32_470 c1_i32_471
  let v706 : BitVec 32 := Scalar.addi c0_i32_472 v705
  v706.toNat
def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_482 : BitVec 32 := 0#32
  let c0_i32_483 : BitVec 32 := 0#32
  ![v2.toNat, 0, 0]
def k0_dev11 : Nat :=
  let c0_i32_481 : BitVec 32 := 0#32
  let c1_i32_479 : BitVec 32 := 1#32
  let c1_i32_480 : BitVec 32 := 1#32
  let v715 : BitVec 32 := Scalar.muli c1_i32_479 c1_i32_480
  let v716 : BitVec 32 := Scalar.addi c0_i32_481 v715
  v716.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_66 : BitVec 32 := 2#32
  let v98 : BitVec 1 := Scalar.cmpi .ne v2 c2_i32_66
  let v99 : BitVec 32 := Scalar.extui v98
  let c0_i32_67 : BitVec 32 := 0#32
  let v100 : BitVec 1 := Scalar.cmpi .ne v99 c0_i32_67
  v100

def k0_off7 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_473 : BitVec 32 := 0#32
  let c0_i32_474 : BitVec 32 := 0#32
  ![v2.toNat, 0, 0]
def k0_dev12 : Nat :=
  let c0_i32_472 : BitVec 32 := 0#32
  let c2_i32_470 : BitVec 32 := 2#32
  let c1_i32_471 : BitVec 32 := 1#32
  let v705 : BitVec 32 := Scalar.muli c2_i32_470 c1_i32_471
  let v706 : BitVec 32 := Scalar.addi c0_i32_472 v705
  v706.toNat
def k0_off9 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_482 : BitVec 32 := 0#32
  let c0_i32_483 : BitVec 32 := 0#32
  ![v2.toNat, 0, 0]
def k0_dev13 : Nat :=
  let c0_i32_481 : BitVec 32 := 0#32
  let c2_i32_479 : BitVec 32 := 2#32
  let c1_i32_480 : BitVec 32 := 1#32
  let v715 : BitVec 32 := Scalar.muli c2_i32_479 c1_i32_480
  let v716 : BitVec 32 := Scalar.addi c0_i32_481 v715
  v716.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_76 : BitVec 32 := 3#32
  let v117 : BitVec 1 := Scalar.cmpi .ne v2 c3_i32_76
  let v118 : BitVec 32 := Scalar.extui v117
  let c0_i32_77 : BitVec 32 := 0#32
  let v119 : BitVec 1 := Scalar.cmpi .ne v118 c0_i32_77
  v119

def k0_off10 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off11 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_473 : BitVec 32 := 0#32
  let c0_i32_474 : BitVec 32 := 0#32
  ![v2.toNat, 0, 0]
def k0_dev14 : Nat :=
  let c0_i32_472 : BitVec 32 := 0#32
  let c3_i32_470 : BitVec 32 := 3#32
  let c1_i32_471 : BitVec 32 := 1#32
  let v705 : BitVec 32 := Scalar.muli c3_i32_470 c1_i32_471
  let v706 : BitVec 32 := Scalar.addi c0_i32_472 v705
  v706.toNat
def k0_off12 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_482 : BitVec 32 := 0#32
  let c0_i32_483 : BitVec 32 := 0#32
  ![v2.toNat, 0, 0]
def k0_dev15 : Nat :=
  let c0_i32_481 : BitVec 32 := 0#32
  let c3_i32_479 : BitVec 32 := 3#32
  let c1_i32_480 : BitVec 32 := 1#32
  let v715 : BitVec 32 := Scalar.muli c3_i32_479 c1_i32_480
  let v716 : BitVec 32 := Scalar.addi c0_i32_481 v715
  v716.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_86 : BitVec 32 := 4#32
  let v136 : BitVec 1 := Scalar.cmpi .ne v2 c4_i32_86
  let v137 : BitVec 32 := Scalar.extui v136
  let c0_i32_87 : BitVec 32 := 0#32
  let v138 : BitVec 1 := Scalar.cmpi .ne v137 c0_i32_87
  v138

def k0_off13 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_473 : BitVec 32 := 0#32
  let c0_i32_474 : BitVec 32 := 0#32
  ![v2.toNat, 0, 0]
def k0_dev16 : Nat :=
  let c0_i32_472 : BitVec 32 := 0#32
  let c4_i32_470 : BitVec 32 := 4#32
  let c1_i32_471 : BitVec 32 := 1#32
  let v705 : BitVec 32 := Scalar.muli c4_i32_470 c1_i32_471
  let v706 : BitVec 32 := Scalar.addi c0_i32_472 v705
  v706.toNat
def k0_off15 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_482 : BitVec 32 := 0#32
  let c0_i32_483 : BitVec 32 := 0#32
  ![v2.toNat, 0, 0]
def k0_dev17 : Nat :=
  let c0_i32_481 : BitVec 32 := 0#32
  let c4_i32_479 : BitVec 32 := 4#32
  let c1_i32_480 : BitVec 32 := 1#32
  let v715 : BitVec 32 := Scalar.muli c4_i32_479 c1_i32_480
  let v716 : BitVec 32 := Scalar.addi c0_i32_481 v715
  v716.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_96 : BitVec 32 := 5#32
  let v155 : BitVec 1 := Scalar.cmpi .ne v2 c5_i32_96
  let v156 : BitVec 32 := Scalar.extui v155
  let c0_i32_97 : BitVec 32 := 0#32
  let v157 : BitVec 1 := Scalar.cmpi .ne v156 c0_i32_97
  v157

def k0_off16 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off17 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_473 : BitVec 32 := 0#32
  let c0_i32_474 : BitVec 32 := 0#32
  ![v2.toNat, 0, 0]
def k0_dev18 : Nat :=
  let c0_i32_472 : BitVec 32 := 0#32
  let c5_i32_470 : BitVec 32 := 5#32
  let c1_i32_471 : BitVec 32 := 1#32
  let v705 : BitVec 32 := Scalar.muli c5_i32_470 c1_i32_471
  let v706 : BitVec 32 := Scalar.addi c0_i32_472 v705
  v706.toNat
def k0_off18 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_482 : BitVec 32 := 0#32
  let c0_i32_483 : BitVec 32 := 0#32
  ![v2.toNat, 0, 0]
def k0_dev19 : Nat :=
  let c0_i32_481 : BitVec 32 := 0#32
  let c5_i32_479 : BitVec 32 := 5#32
  let c1_i32_480 : BitVec 32 := 1#32
  let v715 : BitVec 32 := Scalar.muli c5_i32_479 c1_i32_480
  let v716 : BitVec 32 := Scalar.addi c0_i32_481 v715
  v716.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_106 : BitVec 32 := 6#32
  let v174 : BitVec 1 := Scalar.cmpi .ne v2 c6_i32_106
  let v175 : BitVec 32 := Scalar.extui v174
  let c0_i32_107 : BitVec 32 := 0#32
  let v176 : BitVec 1 := Scalar.cmpi .ne v175 c0_i32_107
  v176

def k0_off19 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_473 : BitVec 32 := 0#32
  let c0_i32_474 : BitVec 32 := 0#32
  ![v2.toNat, 0, 0]
def k0_dev20 : Nat :=
  let c0_i32_472 : BitVec 32 := 0#32
  let c6_i32_470 : BitVec 32 := 6#32
  let c1_i32_471 : BitVec 32 := 1#32
  let v705 : BitVec 32 := Scalar.muli c6_i32_470 c1_i32_471
  let v706 : BitVec 32 := Scalar.addi c0_i32_472 v705
  v706.toNat
def k0_off21 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_482 : BitVec 32 := 0#32
  let c0_i32_483 : BitVec 32 := 0#32
  ![v2.toNat, 0, 0]
def k0_dev21 : Nat :=
  let c0_i32_481 : BitVec 32 := 0#32
  let c6_i32_479 : BitVec 32 := 6#32
  let c1_i32_480 : BitVec 32 := 1#32
  let v715 : BitVec 32 := Scalar.muli c6_i32_479 c1_i32_480
  let v716 : BitVec 32 := Scalar.addi c0_i32_481 v715
  v716.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_116 : BitVec 32 := 7#32
  let v193 : BitVec 1 := Scalar.cmpi .ne v2 c7_i32_116
  let v194 : BitVec 32 := Scalar.extui v193
  let c0_i32_117 : BitVec 32 := 0#32
  let v195 : BitVec 1 := Scalar.cmpi .ne v194 c0_i32_117
  v195

def k0_off22 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off23 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_473 : BitVec 32 := 0#32
  let c0_i32_474 : BitVec 32 := 0#32
  ![v2.toNat, 0, 0]
def k0_dev22 : Nat :=
  let c0_i32_472 : BitVec 32 := 0#32
  let c7_i32_470 : BitVec 32 := 7#32
  let c1_i32_471 : BitVec 32 := 1#32
  let v705 : BitVec 32 := Scalar.muli c7_i32_470 c1_i32_471
  let v706 : BitVec 32 := Scalar.addi c0_i32_472 v705
  v706.toNat
def k0_off24 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_482 : BitVec 32 := 0#32
  let c0_i32_483 : BitVec 32 := 0#32
  ![v2.toNat, 0, 0]
def k0_dev23 : Nat :=
  let c0_i32_481 : BitVec 32 := 0#32
  let c7_i32_479 : BitVec 32 := 7#32
  let c1_i32_480 : BitVec 32 := 1#32
  let v715 : BitVec 32 := Scalar.muli c7_i32_479 c1_i32_480
  let v716 : BitVec 32 := Scalar.addi c0_i32_481 v715
  v716.toNat
def k0_off25 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v196 : Index := Scalar.indexCast v2
  let c0_118 : Index := 0#32
  let c0_119 : Index := 0#32
  ![v196.toNat, 0, 0]
def k0_off26 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v200 : Index := Scalar.indexCast v2
  let c0_120 : Index := 0#32
  let c0_121 : Index := 0#32
  ![v200.toNat, 0, 0]
def k0_off27 (d0 : Dev nD) (c1_i32_122 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v203 : BitVec 32 := Scalar.addi v2 c1_i32_122
  let c8_i32_123 : BitVec 32 := 8#32
  let v204 : BitVec 32 := Scalar.remsi v203 c8_i32_123
  ![v204.toNat]
def k0_off28 (d0 : Dev nD) (c1_i32_122 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v203 : BitVec 32 := Scalar.addi v2 c1_i32_122
  let c8_i32_123 : BitVec 32 := 8#32
  let v204 : BitVec 32 := Scalar.remsi v203 c8_i32_123
  let c0_i32_126 : BitVec 32 := 0#32
  let c0_i32_127 : BitVec 32 := 0#32
  ![v204.toNat, 0, 0]
def k0_off29 (d0 : Dev nD) (c1_i32_122 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v203 : BitVec 32 := Scalar.addi v2 c1_i32_122
  let c8_i32_123 : BitVec 32 := 8#32
  let v204 : BitVec 32 := Scalar.remsi v203 c8_i32_123
  let c0_i32_132 : BitVec 32 := 0#32
  let c0_i32_133 : BitVec 32 := 0#32
  ![v204.toNat, 0, 0]
def k0_off30 (d0 : Dev nD) (c1_i32_122 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v203 : BitVec 32 := Scalar.addi v2 c1_i32_122
  let c8_i32_123 : BitVec 32 := 8#32
  let v204 : BitVec 32 := Scalar.remsi v203 c8_i32_123
  let v221 : Index := Scalar.indexCast v204
  let c0_136 : Index := 0#32
  let c0_137 : Index := 0#32
  ![v221.toNat, 0, 0]
def k0_off31 (d0 : Dev nD) (c1_i32_122 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v203 : BitVec 32 := Scalar.addi v2 c1_i32_122
  let c8_i32_123 : BitVec 32 := 8#32
  let v204 : BitVec 32 := Scalar.remsi v203 c8_i32_123
  let v226 : Index := Scalar.indexCast v204
  let c0_138 : Index := 0#32
  let c0_139 : Index := 0#32
  ![v226.toNat, 0, 0]
def k0_off32 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off33 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_254 : BitVec 32 := 0#32
  let c0_i32_255 : BitVec 32 := 0#32
  ![v2.toNat, 0, 0]
def k0_dev24 (d0 : Dev nD) : Nat :=
  let c0_i32_253 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_250 : BitVec 32 := 1#32
  let v399 : BitVec 32 := Scalar.addi v2 c1_i32_250
  let c8_i32_251 : BitVec 32 := 8#32
  let v400 : BitVec 32 := Scalar.remsi v399 c8_i32_251
  let c1_i32_252 : BitVec 32 := 1#32
  let v401 : BitVec 32 := Scalar.muli v400 c1_i32_252
  let v402 : BitVec 32 := Scalar.addi c0_i32_253 v401
  v402.toNat
def k0_dev25 (d0 : Dev nD) : Nat :=
  let c0_i32_261 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_258 : BitVec 32 := 2#32
  let v411 : BitVec 32 := Scalar.addi v2 c2_i32_258
  let c8_i32_259 : BitVec 32 := 8#32
  let v412 : BitVec 32 := Scalar.remsi v411 c8_i32_259
  let c1_i32_260 : BitVec 32 := 1#32
  let v413 : BitVec 32 := Scalar.muli v412 c1_i32_260
  let v414 : BitVec 32 := Scalar.addi c0_i32_261 v413
  v414.toNat
def k0_dev26 (d0 : Dev nD) : Nat :=
  let c0_i32_269 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_266 : BitVec 32 := 3#32
  let v423 : BitVec 32 := Scalar.addi v2 c3_i32_266
  let c8_i32_267 : BitVec 32 := 8#32
  let v424 : BitVec 32 := Scalar.remsi v423 c8_i32_267
  let c1_i32_268 : BitVec 32 := 1#32
  let v425 : BitVec 32 := Scalar.muli v424 c1_i32_268
  let v426 : BitVec 32 := Scalar.addi c0_i32_269 v425
  v426.toNat
def k0_dev27 (d0 : Dev nD) : Nat :=
  let c0_i32_277 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_274 : BitVec 32 := 4#32
  let v435 : BitVec 32 := Scalar.addi v2 c4_i32_274
  let c8_i32_275 : BitVec 32 := 8#32
  let v436 : BitVec 32 := Scalar.remsi v435 c8_i32_275
  let c1_i32_276 : BitVec 32 := 1#32
  let v437 : BitVec 32 := Scalar.muli v436 c1_i32_276
  let v438 : BitVec 32 := Scalar.addi c0_i32_277 v437
  v438.toNat
def k0_dev28 (d0 : Dev nD) : Nat :=
  let c0_i32_285 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_282 : BitVec 32 := 5#32
  let v447 : BitVec 32 := Scalar.addi v2 c5_i32_282
  let c8_i32_283 : BitVec 32 := 8#32
  let v448 : BitVec 32 := Scalar.remsi v447 c8_i32_283
  let c1_i32_284 : BitVec 32 := 1#32
  let v449 : BitVec 32 := Scalar.muli v448 c1_i32_284
  let v450 : BitVec 32 := Scalar.addi c0_i32_285 v449
  v450.toNat
def k0_dev29 (d0 : Dev nD) : Nat :=
  let c0_i32_293 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_290 : BitVec 32 := 6#32
  let v459 : BitVec 32 := Scalar.addi v2 c6_i32_290
  let c8_i32_291 : BitVec 32 := 8#32
  let v460 : BitVec 32 := Scalar.remsi v459 c8_i32_291
  let c1_i32_292 : BitVec 32 := 1#32
  let v461 : BitVec 32 := Scalar.muli v460 c1_i32_292
  let v462 : BitVec 32 := Scalar.addi c0_i32_293 v461
  v462.toNat
def k0_dev30 (d0 : Dev nD) : Nat :=
  let c0_i32_301 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_298 : BitVec 32 := 7#32
  let v471 : BitVec 32 := Scalar.addi v2 c7_i32_298
  let c8_i32_299 : BitVec 32 := 8#32
  let v472 : BitVec 32 := Scalar.remsi v471 c8_i32_299
  let c1_i32_300 : BitVec 32 := 1#32
  let v473 : BitVec 32 := Scalar.muli v472 c1_i32_300
  let v474 : BitVec 32 := Scalar.addi c0_i32_301 v473
  v474.toNat
def k0_off34 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32 : BitVec 32 := 128#32
  let v483 : BitVec 32 := Scalar.muli v2 c128_i32
  let v484 : Index := Scalar.indexCast v483
  let c0_306 : Index := 0#32
  ![v484.toNat, 0]
def k0_off35 (d0 : Dev nD) (c1_i32_310 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v491 : BitVec 32 := Scalar.addi v2 c1_i32_310
  let c8_i32_311 : BitVec 32 := 8#32
  let v492 : BitVec 32 := Scalar.remsi v491 c8_i32_311
  let c128_i32_318 : BitVec 32 := 128#32
  let v501 : BitVec 32 := Scalar.muli v492 c128_i32_318
  let v502 : Index := Scalar.indexCast v501
  let c0_319 : Index := 0#32
  ![v502.toNat, 0]
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_403 : BitVec 32 := 0#32
  let v625 : BitVec 1 := Scalar.cmpi .ne v2 c0_i32_403
  let v626 : BitVec 32 := Scalar.extui v625
  let c0_i32_404 : BitVec 32 := 0#32
  let v627 : BitVec 1 := Scalar.cmpi .ne v626 c0_i32_404
  v627

def k0_off36 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_474 : BitVec 32 := 0#32
  let c0_i32_475 : BitVec 32 := 0#32
  ![v2.toNat, 0, 0]
def k0_off37 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_482 : BitVec 32 := 0#32
  let c0_i32_483 : BitVec 32 := 0#32
  ![v2.toNat, 0, 0]
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_405 : BitVec 32 := 1#32
  let v628 : BitVec 1 := Scalar.cmpi .ne v2 c1_i32_405
  let v629 : BitVec 32 := Scalar.extui v628
  let c0_i32_406 : BitVec 32 := 0#32
  let v630 : BitVec 1 := Scalar.cmpi .ne v629 c0_i32_406
  v630

def k0_off38 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_474 : BitVec 32 := 0#32
  let c0_i32_475 : BitVec 32 := 0#32
  ![v2.toNat, 0, 0]
def k0_off39 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_482 : BitVec 32 := 0#32
  let c0_i32_483 : BitVec 32 := 0#32
  ![v2.toNat, 0, 0]
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_407 : BitVec 32 := 2#32
  let v631 : BitVec 1 := Scalar.cmpi .ne v2 c2_i32_407
  let v632 : BitVec 32 := Scalar.extui v631
  let c0_i32_408 : BitVec 32 := 0#32
  let v633 : BitVec 1 := Scalar.cmpi .ne v632 c0_i32_408
  v633

def k0_off40 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_474 : BitVec 32 := 0#32
  let c0_i32_475 : BitVec 32 := 0#32
  ![v2.toNat, 0, 0]
def k0_off41 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_482 : BitVec 32 := 0#32
  let c0_i32_483 : BitVec 32 := 0#32
  ![v2.toNat, 0, 0]
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_409 : BitVec 32 := 3#32
  let v634 : BitVec 1 := Scalar.cmpi .ne v2 c3_i32_409
  let v635 : BitVec 32 := Scalar.extui v634
  let c0_i32_410 : BitVec 32 := 0#32
  let v636 : BitVec 1 := Scalar.cmpi .ne v635 c0_i32_410
  v636

def k0_off42 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_474 : BitVec 32 := 0#32
  let c0_i32_475 : BitVec 32 := 0#32
  ![v2.toNat, 0, 0]
def k0_off43 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_482 : BitVec 32 := 0#32
  let c0_i32_483 : BitVec 32 := 0#32
  ![v2.toNat, 0, 0]
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_411 : BitVec 32 := 4#32
  let v637 : BitVec 1 := Scalar.cmpi .ne v2 c4_i32_411
  let v638 : BitVec 32 := Scalar.extui v637
  let c0_i32_412 : BitVec 32 := 0#32
  let v639 : BitVec 1 := Scalar.cmpi .ne v638 c0_i32_412
  v639

def k0_off44 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_474 : BitVec 32 := 0#32
  let c0_i32_475 : BitVec 32 := 0#32
  ![v2.toNat, 0, 0]
def k0_off45 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_482 : BitVec 32 := 0#32
  let c0_i32_483 : BitVec 32 := 0#32
  ![v2.toNat, 0, 0]
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_413 : BitVec 32 := 5#32
  let v640 : BitVec 1 := Scalar.cmpi .ne v2 c5_i32_413
  let v641 : BitVec 32 := Scalar.extui v640
  let c0_i32_414 : BitVec 32 := 0#32
  let v642 : BitVec 1 := Scalar.cmpi .ne v641 c0_i32_414
  v642

def k0_off46 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_474 : BitVec 32 := 0#32
  let c0_i32_475 : BitVec 32 := 0#32
  ![v2.toNat, 0, 0]
def k0_off47 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_482 : BitVec 32 := 0#32
  let c0_i32_483 : BitVec 32 := 0#32
  ![v2.toNat, 0, 0]
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_415 : BitVec 32 := 6#32
  let v643 : BitVec 1 := Scalar.cmpi .ne v2 c6_i32_415
  let v644 : BitVec 32 := Scalar.extui v643
  let c0_i32_416 : BitVec 32 := 0#32
  let v645 : BitVec 1 := Scalar.cmpi .ne v644 c0_i32_416
  v645

def k0_off48 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_474 : BitVec 32 := 0#32
  let c0_i32_475 : BitVec 32 := 0#32
  ![v2.toNat, 0, 0]
def k0_off49 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_482 : BitVec 32 := 0#32
  let c0_i32_483 : BitVec 32 := 0#32
  ![v2.toNat, 0, 0]
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_417 : BitVec 32 := 7#32
  let v646 : BitVec 1 := Scalar.cmpi .ne v2 c7_i32_417
  let v647 : BitVec 32 := Scalar.extui v646
  let c0_i32_418 : BitVec 32 := 0#32
  let v648 : BitVec 1 := Scalar.cmpi .ne v647 c0_i32_418
  v648

def k0_off50 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_474 : BitVec 32 := 0#32
  let c0_i32_475 : BitVec 32 := 0#32
  ![v2.toNat, 0, 0]
def k0_off51 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_482 : BitVec 32 := 0#32
  let c0_i32_483 : BitVec 32 := 0#32
  ![v2.toNat, 0, 0]
abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "inv_sqrt_dh" => some (((Real.sqrt 128)⁻¹ : ℝ) : EReal)
  | _ => none
-- ==== ReferenceIdeal.lean ====
abbrev S512x1024 : Shape := ⟨2, ![512, 1024]⟩
abbrev S1024x1024 : Shape := ⟨2, ![1024, 1024]⟩
abbrev S16384x256 : Shape := ⟨2, ![16384, 256]⟩
abbrev S512x8x128 : Shape := ⟨3, ![512, 8, 128]⟩
abbrev S16384x2x128 : Shape := ⟨3, ![16384, 2, 128]⟩
abbrev S16384x2x4x128 : Shape := ⟨4, ![16384, 2, 4, 128]⟩
abbrev S16384x8x128 : Shape := ⟨3, ![16384, 8, 128]⟩
abbrev S8x512x16384 : Shape := ⟨3, ![8, 512, 16384]⟩
abbrev S_ : Shape := ⟨0, ![]⟩
abbrev S8x512 : Shape := ⟨2, ![8, 512]⟩
abbrev S8x512x1 : Shape := ⟨3, ![8, 512, 1]⟩
abbrev S8x128x512 : Shape := ⟨3, ![8, 128, 512]⟩
abbrev S512x8x1 : Shape := ⟨3, ![512, 8, 1]⟩

abbrev nBuf : Space → Nat
  | .hbm => 49
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S1024x1024, .bf16⟩
  | .hbm, ⟨2, _⟩ => ⟨S1024x1024, .bf16⟩
  | .hbm, ⟨3, _⟩ => ⟨S16384x256, .bf16⟩
  | .hbm, ⟨4, _⟩ => ⟨S16384x256, .bf16⟩
  | .hbm, ⟨5, _⟩ => ⟨S512x1024, .f32⟩
  | .hbm, ⟨6, _⟩ => ⟨S1024x1024, .f32⟩
  | .hbm, ⟨7, _⟩ => ⟨S512x1024, .f32⟩
  | .hbm, ⟨8, _⟩ => ⟨S512x1024, .bf16⟩
  | .hbm, ⟨9, _⟩ => ⟨S512x1024, .f32⟩
  | .hbm, ⟨10, _⟩ => ⟨S512x8x128, .f32⟩
  | .hbm, ⟨11, _⟩ => ⟨S16384x256, .f32⟩
  | .hbm, ⟨12, _⟩ => ⟨S16384x2x128, .f32⟩
  | .hbm, ⟨13, _⟩ => ⟨S16384x2x4x128, .f32⟩
  | .hbm, ⟨14, _⟩ => ⟨S16384x8x128, .f32⟩
  | .hbm, ⟨15, _⟩ => ⟨S16384x256, .f32⟩
  | .hbm, ⟨16, _⟩ => ⟨S16384x2x128, .f32⟩
  | .hbm, ⟨17, _⟩ => ⟨S16384x2x4x128, .f32⟩
  | .hbm, ⟨18, _⟩ => ⟨S16384x8x128, .f32⟩
  | .hbm, ⟨19, _⟩ => ⟨S8x512x16384, .f32⟩
  | .hbm, ⟨20, _⟩ => ⟨S8x512x16384, .bf16⟩
  | .hbm, ⟨21, _⟩ => ⟨S8x512x16384, .f32⟩
  | .hbm, ⟨22, _⟩ => ⟨S_, .f32⟩
  | .hbm, ⟨23, _⟩ => ⟨S_, .f32⟩
  | .hbm, ⟨24, _⟩ => ⟨S8x512x16384, .f32⟩
  | .hbm, ⟨25, _⟩ => ⟨S8x512x16384, .f32⟩
  | .hbm, ⟨26, _⟩ => ⟨S_, .f32⟩
  | .hbm, ⟨27, _⟩ => ⟨S8x512, .f32⟩
  | .hbm, ⟨28, _⟩ => ⟨S8x512x1, .f32⟩
  | .hbm, ⟨29, _⟩ => ⟨S_, .f32⟩
  | .hbm, ⟨30, _⟩ => ⟨S8x512x1, .f32⟩
  | .hbm, ⟨31, _⟩ => ⟨S8x512x1, .i1⟩
  | .hbm, ⟨32, _⟩ => ⟨S_, .f32⟩
  | .hbm, ⟨33, _⟩ => ⟨S8x512x1, .f32⟩
  | .hbm, ⟨34, _⟩ => ⟨S8x512x1, .f32⟩
  | .hbm, ⟨35, _⟩ => ⟨S8x512x16384, .f32⟩
  | .hbm, ⟨36, _⟩ => ⟨S8x512x16384, .f32⟩
  | .hbm, ⟨37, _⟩ => ⟨S8x512x16384, .f32⟩
  | .hbm, ⟨38, _⟩ => ⟨S_, .f32⟩
  | .hbm, ⟨39, _⟩ => ⟨S8x512, .f32⟩
  | .hbm, ⟨40, _⟩ => ⟨S8x512x1, .f32⟩
  | .hbm, ⟨41, _⟩ => ⟨S8x128x512, .f32⟩
  | .hbm, ⟨42, _⟩ => ⟨S512x8x128, .f32⟩
  | .hbm, ⟨43, _⟩ => ⟨S512x8x1, .f32⟩
  | .hbm, ⟨44, _⟩ => ⟨S512x8x128, .f32⟩
  | .hbm, ⟨45, _⟩ => ⟨S512x8x128, .f32⟩
  | .hbm, ⟨46, _⟩ => ⟨S512x1024, .f32⟩
  | .hbm, ⟨47, _⟩ => ⟨S1024x1024, .f32⟩
  | .hbm, ⟨48, _⟩ => ⟨S512x1024, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_call0_v0 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Proof.Slots.lean ====
/-
# Slots of a stacked buffer

A buffer of shape `8 × a × b` is eight slots of shape `1 × a × b`. This module owns slots one at a time (`slotOwn` at
given contents, `slotAny` at some contents), cuts a whole buffer into its eight slots and glues it again, deals a slot
out in eight shares, and restates the rules of the operations a kernel applies to slots — load, store, remote copy —
in those terms. Nothing here depends on a particular kernel.
-/
module

public import Idealize.ShloMosaic.Lib.Pipeline.Launch
public import Idealize.ShloMosaic.Lib.Pipeline.Kit
public import Idealize.ShloMosaic.Lib.MemrefSat
public import Idealize.ShloMosaic.Lib.ShareLeaves
public import Idealize.ShloMosaic.Lib.Tactic

@[expose] public section

noncomputable section

namespace Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-! ## The slots of a stack -/

/-- The shape of a stack of eight `a × b` slots. -/
abbrev stackSh (a b : ℕ) : Shape := ⟨3, ![8, a, b]⟩
/-- The shape of one slot. -/
abbrev slotSh (a b : ℕ) : Shape := ⟨3, ![1, a, b]⟩

/-- A slot lies within its stack, -/
theorem slot_inb (a b : ℕ) (h : Fin 8) : ∀ i, (![h.val, 0, 0] : Fin 3 → ℕ) i + (![1, a, b] : Fin 3 → ℕ) i ≤ (stackSh a b).size i := by
  intro i
  have := h.isLt
  fin_cases i <;> simp [stackSh] <;> omega

/-- Slot `h` of a stack, as a rectangle. -/
abbrev slotR (a b : ℕ) (h : Fin 8) : Rect (stackSh a b) := Rect.unit (s := stackSh a b) ![h.val, 0, 0] ![1, a, b] (slot_inb a b h)

/-- is contiguous, -/
theorem slotR_stride (a b : ℕ) (h : Fin 8) : ∀ i, (slotR a b h).stride i = 1 := fun _ => rfl

/-- and holds the places whose first coordinate is its own. -/
theorem mem_slotR {a b : ℕ} {h : Fin 8} {x : (stackSh a b).Idx} : x ∈ (slotR a b h).set ↔ (x 0).val = h.val := by
  rw [Rect.mem_set_unit]
  have h1 : (x 1).val < a := (x 1).isLt
  have h2 : (x 2).val < b := (x 2).isLt
  constructor
  · intro H
    have := H 0
    simp at this
    omega
  · intro H i
    fin_cases i
    · simp; omega
    · simpa using h1
    · simpa using h2

/-- Different slots are apart, -/
theorem slotR_disjoint (a b : ℕ) (t t' : Fin 8) (h : t ≠ t') : Disjoint (slotR a b t).set (slotR a b t').set :=
  Finset.disjoint_left.mpr fun x hx hx' => h (Fin.ext ((mem_slotR.mp hx).symm.trans (mem_slotR.mp hx')))

/-- and the eight make up the stack. -/
theorem slotR_cover (a b : ℕ) : (Finset.univ : Finset (Fin 8)).biUnion (fun t => (slotR a b t).set) = Finset.univ :=
  Finset.eq_univ_iff_forall.mpr fun x => Finset.mem_biUnion.mpr ⟨x 0, Finset.mem_univ _, mem_slotR.mpr rfl⟩

section Own

variable (c : Thread nD τ) {sp : Space} {a b : ℕ} {e : EltTy} (m : Memref sig c.2.kind sp (stackSh a b) e)

/-- Slot `h` as a memref. -/
abbrev slotM (h : Fin 8) : Memref sig c.2.kind sp (slotSh a b) e := m.slice (slotR a b h) (slotR_stride a b h)

/-- Core `c` owns slot `h` of the stack at share `q`, holding `X`. -/
abbrev slotOwn (h : Fin 8) (q : PosShare TreeShare) (X : (slotSh a b).Idx → Val e) : sProp 𝕄 := owns c (slotM c m h) q X

/-- Core `c` owns slot `h` of the stack, whatever it holds. -/
abbrev slotAny (h : Fin 8) : sProp 𝕄 := ownsSat c (slotM c m h) fullShare (fun _ => True)

/-- A slot held at known contents is held at some. -/
theorem slotAny_of (h : Fin 8) (X : (slotSh a b).Idx → Val e) : (slotOwn c m h fullShare X : sProp 𝕄) ⊢ slotAny c m h :=
  ownsSat_intro c _ fullShare trivial

/-- A stack owned at some contents is its eight slots, each owned at some contents, -/
theorem stack_split : (ownsSat c m fullShare (fun _ => True) : sProp 𝕄) ⊢ BI.bigSep Finset.univ fun h : Fin 8 => slotAny c m h := by
  have H := ownsSat_rects (Ix := Ix) (Name := Name) (U := U) (Lvl := Lvl) c m fullShare (slotR a b) (slotR_stride a b) (slotR_disjoint a b) (slotR_cover a b)
    (fun _ (_ : (slotSh a b).Idx → Val e) => True)
  exact (ownsSat_mono c m fullShare (fun X _ t => trivial)).trans H

/-- and back. -/
theorem stack_join [∀ e, Nonempty (Val e)] :
    (BI.bigSep Finset.univ fun h : Fin 8 => slotAny c m h : sProp 𝕄) ⊢ ownsSat c m fullShare (fun _ => True) := by
  have H := ownsSat_of_rects (Ix := Ix) (Name := Name) (U := U) (Lvl := Lvl) c m fullShare (slotR a b) (slotR_stride a b) (slotR_disjoint a b) (slotR_cover a b)
    (fun _ (_ : (slotSh a b).Idx → Val e) => True)
  exact H.trans (ownsSat_mono c m fullShare (fun X _ => trivial))

end Own

/-- A memref owned at a share is owned at that share's leaves at once. -/
theorem owns_leaves (c : Thread nD τ) {sp : Space} {s : Shape} {e : EltTy} (m : Memref sig c.2.kind sp s e) (X : s.Idx → Val e) :
    ∀ (n : ℕ) (q : PosShare TreeShare),
      (owns c m q X : sProp 𝕄) = BI.bigSep Finset.univ fun i : Fin (2 ^ n) => owns c m (ShareLeaves.leaf n q i) X
  | 0, q => (bigSep_univ_of_subsingleton (0 : Fin 1) (Φ := fun i : Fin (2 ^ 0) => (owns c m (ShareLeaves.leaf 0 q i) X : sProp 𝕄))).symm
  | n + 1, q => by
    have hh : (owns c m q X : sProp 𝕄) = iprop(owns c m q.left X ∗ owns c m q.right X) :=
      Entails.antisymm (owns_halves c m q X).1 (owns_halves c m q X).2
    rw [hh, owns_leaves c m X n q.left, owns_leaves c m X n q.right,
      bigSep_univ_equiv (ShareLeaves.sumEquiv n) (fun i : Fin (2 ^ (n + 1)) => (owns c m (ShareLeaves.leaf (n + 1) q i) X : sProp 𝕄)), bigSep_univ_sum]
    congr 1 <;> refine bigSep_congr fun i _ => ?_
    · rw [ShareLeaves.leaf_inl]
    · rw [ShareLeaves.leaf_inr]

/-- A squeezed memref is owned at the squeezed contents exactly when the memref is owned at the contents. -/
theorem owns_squeeze (c : Thread nD τ) {sp : Space} {s s' : Shape} {e : EltTy} (m : Memref sig c.2.kind sp s e) (h : s.Squeezes s') (q : PosShare TreeShare)
    (X : s.Idx → Val e) :
    (owns c (m.squeeze s' h) q (fun j => X (Shape.reshapeEquiv h.numel_eq j)) : sProp 𝕄) = owns c m q X := by
  have hr (f : m.view.ty.Contents Val) :
      ((m.squeeze s' h).view.read Val f = fun j => X (Shape.reshapeEquiv h.numel_eq j)) = (m.view.read Val f = X) := by
    refine propext ⟨fun H => funext fun x => ?_, fun H => ?_⟩
    · have := congrFun H ((Shape.reshapeEquiv h.numel_eq).symm x)
      rw [Equiv.apply_symm_apply] at this
      rw [← this]
      show _ = m.view.read Val f (Shape.reshapeEquiv h.numel_eq ((Shape.reshapeEquiv h.numel_eq).symm x))
      rw [Equiv.apply_symm_apply]
    · funext j
      rw [← H]; rfl
  unfold owns
  have hs : (m.squeeze s' h).view.set = m.view.set := View.set_reshape _ _
  rw [hs]
  have e : (fun f : m.view.ty.Contents Val => (iprop(⌜(m.squeeze s' h).view.read Val f = fun j => X (Shape.reshapeEquiv h.numel_eq j)⌝
        ∗ (m.view.loc c ↦[m.view.set]{q} f)) : sProp 𝕄))
      = fun f => iprop(⌜m.view.read Val f = X⌝ ∗ (m.view.loc c ↦[m.view.set]{q} f)) := funext fun f => by rw [hr]
  exact congrArg BIBase.exists e

/-! ## The operations -/

section Ops

variable {Λ : Labels} [Preorder Lvl] {defs : Defs nD τ sig Val Λ} (𝒱 : Variants) (c : Thread nD τ) (bd : Option 𝒱.V) {Γ : PendingWaitsCtx sig Ix}
variable (Es : Set Name) {α : Type} {Q : α → sProp (MT nD τ sig Ix Val Name U Lvl)} {e : EltTy}

/-- A load of a whole rectangle owned at `X` reads `X`. -/
theorem wp_load_owns {cs : CoreSpace} {s : Shape} (m : Memref sig c.2.kind cs s e) (r : Rect s) (hr : ∀ i, r.stride i = 1)
    {hl : m.view.LoadsAt r.toLoadRect} {k : (r.shape.Idx → Val e) → Prog (TpuEff nD τ sig Val Λ c.2) α}
    (q : PosShare TreeShare) (X : r.shape.Idx → Val e) :
    (owns c (m.slice r hr) q X : sProp 𝕄)
      ⊢ iprop((owns c (m.slice r hr) q X -∗ wp frame (wpE' defs 𝒱 c bd Γ) Es (k X) Q)
        -∗ wp frame (wpE' defs 𝒱 c bd Γ) Es (.op (.load m r.toLoadRect hl) k) Q) := by
  unfold owns
  iintro ⟨%f, %hf, H⟩ Hk
  iapply (wp_load_rect 𝒱 c bd Es (m := m) (r := r) (hl := hl) (S := (m.access r).set) subset_rfl) $$ H
  iintro H
  have hf' : (m.access r).read Val f = X := hf
  rw [hf']
  iapply Hk
  iexists f
  isplitr; · ipureintro; exact hf
  iexact H

/-- A store of a whole rectangle leaves it owned at what was stored. -/
theorem wp_store_owns {cs : CoreSpace} {s : Shape} (m : Memref sig c.2.kind cs s e) (r : Rect s) (hr : ∀ i, r.stride i = 1)
    {w : r.shape.Idx → Val e} {hx : (m.access r).Stores Finset.univ} {hm : Finset.univ = Finset.univ ∨ ∀ a, r.stride a = 1}
    {k : PUnit → Prog (TpuEff nD τ sig Val Λ c.2) α} :
    (ownsSat c (m.slice r hr) fullShare (fun _ => True) : sProp 𝕄)
      ⊢ iprop((owns c (m.slice r hr) fullShare w -∗ wp frame (wpE' defs 𝒱 c bd Γ) Es (k ⟨⟩) Q)
        -∗ wp frame (wpE' defs 𝒱 c bd Γ) Es (.op (.store m r w Finset.univ hx hm) k) Q) := by
  refine (ownsSat_any c _ _).trans ?_
  unfold owns
  iintro ⟨%X, %f, %hf, H⟩ Hk
  iapply (wp_store 𝒱 c bd Es (m := m) (r := r) (S := (m.access r).set) (View.setOn_subset_set _ _)) $$ H
  iintro H
  iapply Hk
  iexists ((m.access r).write Val f w Finset.univ)
  isplitr; · ipureintro; exact View.read_write_univ _ _
  iexact H

/-- A load of slot `h` of a stack, the offsets known to be the slot's. -/
theorem wp_load_slot {cs : CoreSpace} {a b : ℕ} (m : Memref sig c.2.kind cs (stackSh a b) e) (h : Fin 8) {off : Fin 3 → ℕ}
    (ho : off = ![h.val, 0, 0]) {inb : ∀ i, off i + (![1, a, b] : Fin 3 → ℕ) i ≤ (stackSh a b).size i}
    {hl : m.view.LoadsAt (Rect.unit (s := stackSh a b) off ![1, a, b] inb).toLoadRect}
    {k : ((slotSh a b).Idx → Val e) → Prog (TpuEff nD τ sig Val Λ c.2) α}
    (q : PosShare TreeShare) (X : (slotSh a b).Idx → Val e) :
    (slotOwn c m h q X : sProp 𝕄)
      ⊢ iprop((slotOwn c m h q X -∗ wp frame (wpE' defs 𝒱 c bd Γ) Es (k X) Q)
        -∗ wp frame (wpE' defs 𝒱 c bd Γ) Es (.op (.load m (Rect.unit (s := stackSh a b) off ![1, a, b] inb).toLoadRect hl) k) Q) := by
  subst ho
  exact wp_load_owns 𝒱 c bd Es m (slotR a b h) (slotR_stride a b h) q X

/-- A load of a slot whose contents nothing is known about, what it reads not mattering. -/
theorem wp_load_slotAny {cs : CoreSpace} {a b : ℕ} (m : Memref sig c.2.kind cs (stackSh a b) e) (h : Fin 8) {off : Fin 3 → ℕ}
    (ho : off = ![h.val, 0, 0]) {inb : ∀ i, off i + (![1, a, b] : Fin 3 → ℕ) i ≤ (stackSh a b).size i}
    {hl : m.view.LoadsAt (Rect.unit (s := stackSh a b) off ![1, a, b] inb).toLoadRect}
    {k : Prog (TpuEff nD τ sig Val Λ c.2) α} :
    (slotAny c m h : sProp 𝕄)
      ⊢ iprop((slotAny c m h -∗ wp frame (wpE' defs 𝒱 c bd Γ) Es k Q)
        -∗ wp frame (wpE' defs 𝒱 c bd Γ) Es (.op (.load m (Rect.unit (s := stackSh a b) off ![1, a, b] inb).toLoadRect hl) (fun _ => k)) Q) := by
  refine (ownsSat_any c _ _).trans ?_
  iintro ⟨%X, H⟩ Hk
  iapply (wp_load_slot 𝒱 c bd Es m h ho (k := fun _ => k) fullShare X) $$ H
  iintro H
  iapply Hk
  iapply (slotAny_of c m h X)
  iexact H

/-- A store to slot `h` of a stack, the offsets known to be the slot's. -/
theorem wp_store_slot {cs : CoreSpace} {a b : ℕ} (m : Memref sig c.2.kind cs (stackSh a b) e) (h : Fin 8) {off : Fin 3 → ℕ}
    (ho : off = ![h.val, 0, 0]) {inb : ∀ i, off i + (![1, a, b] : Fin 3 → ℕ) i ≤ (stackSh a b).size i}
    {w : (slotSh a b).Idx → Val e} {hx : (m.access (Rect.unit (s := stackSh a b) off ![1, a, b] inb)).Stores Finset.univ}
    {hm : Finset.univ = Finset.univ ∨ ∀ i, (Rect.unit (s := stackSh a b) off ![1, a, b] inb).stride i = 1}
    {k : PUnit → Prog (TpuEff nD τ sig Val Λ c.2) α} :
    (slotAny c m h : sProp 𝕄)
      ⊢ iprop((slotOwn c m h fullShare w -∗ wp frame (wpE' defs 𝒱 c bd Γ) Es (k ⟨⟩) Q)
        -∗ wp frame (wpE' defs 𝒱 c bd Γ) Es (.op (.store m (Rect.unit (s := stackSh a b) off ![1, a, b] inb) w Finset.univ hx hm) k) Q) := by
  subst ho
  exact wp_store_owns 𝒱 c bd Es m (slotR a b h) (slotR_stride a b h)

end Ops

section Send

variable {Λ : Labels} [Preorder Lvl] {defs : Defs nD τ sig Val Λ} (𝒱 : Variants) {D : Type} [DecidableEq D]
variable (E : Emb (URounds (GSem nD τ sig) D) (MT nD τ sig Ix Val Name U Lvl)) (Rd : Schedule (GSem nD τ sig) D (MT nD τ sig Ix Val Name U Lvl))
variable (c : Thread nD τ) (bd : Option 𝒱.V) {Γ : PendingWaitsCtx sig Ix}
variable {α : Type} {Q : α → sProp (MT nD τ sig Ix Val Name U Lvl)} {e : EltTy}

/-- A remote copy between memrefs owned at contents: the completion of the send pays the source back, the completion of
    the receive hands over the destination holding the source's contents. -/
theorem wp_send_owns {sp sp' : Space} {s : Shape} {c' : Thread nD τ} {src : Memref sig c.2.kind sp s e} {dst : Memref sig c'.2.kind sp' s e}
    {hsc : dst.view.ref.isScScratch = false} {sS sem : SemLoc sig}
    {hsrc : src.view.WordExact} {hdst : dst.view.WordExact} {hsem : DmaTarget.Typed sp sem (.remote c' dst sS hsc)}
    {k : PUnit → Prog (TpuEff nD τ sig Val Λ c.2) α} {q : PosShare TreeShare} {X : s.Idx → Val e} {r₁ r₂ : ℕ} {d₁ d₂ : D}
    {κ₁ κ₂ : Name} (hd₁ : d₁ ∈ Rd.duties (c, sS) r₁) (hd₂ : d₂ ∈ Rd.duties (c', sem) r₂)
    (ι ι' : Ix) (N : ℕ) (hN : dst.view.amount sem = N)
    (hk₁ : Rd.amount (c, sS) r₁ d₁ = N) (hk₂ : Rd.amount (c', sem) r₂ d₂ = N)
    {O₀ : CellTallies nD τ sig Ix} (O : CellTallies nD τ sig Ix) (hO : O₀ = O + tallyAt (c', sem) ι N) {W : Waits sig Ix}
    (hpay₁ : (owns c src q X : sProp 𝕄) ⊢ Rd.payload (c, sS) r₁ d₁)
    (hpay₂ : (owns c' dst fullShare X : sProp 𝕄) ⊢ Rd.payload (c', sem) r₂ d₂) {Es : Set Name} (hr : τ.routes c c' = true) :
    iprop(cellInv E Rd κ₁ (c, sS) ∗ cellInv E Rd κ₂ (c', sem)
        ∗ owns c src q X ∗ ownsSat c' dst fullShare (fun _ => True)
        ∗ owes c O₀ W
        ∗ dutyTok E (c, sS) r₁ d₁ ∗ reached E (c, sS) r₁
        ∗ dutyTok E (c', sem) r₂ d₂ ∗ reached E (c', sem) r₂)
      ⊢ iprop(((cred (tallyAt (c, sS) ι' N) ∗ owes c O W) -∗ wp frame (wpE' defs 𝒱 c bd Γ) Es (k ⟨⟩) Q)
          -∗ wp frame (wpE' defs 𝒱 c bd Γ) Es (.op (.enqueueDma src (.remote c' dst sS hsc) sem hsrc hdst hsem) k) Q) := by
  iintro ⟨H1, H2, Hs, Hd, HO, Ht1, Hr1, Ht2, Hr2⟩
  ihave Hs' := (show (owns c src q X : sProp 𝕄) ⊢ iprop(∃ f, ⌜src.view.read Val f = X⌝ ∗ (src.view.loc c ↦[src.view.set]{q} f)) from .rfl) $$ Hs
  icases Hs' with ⟨%fs, %hfs, Hs⟩
  ihave Hd' := (ownsSat_any c' dst fullShare) $$ Hd
  icases Hd' with ⟨%Y, Hd⟩
  ihave Hd' := (show (owns c' dst fullShare Y : sProp 𝕄) ⊢ iprop(∃ f, ⌜dst.view.read Val f = Y⌝ ∗ (dst.view.loc c' ↦[dst.view.set]{fullShare} f)) from .rfl) $$ Hd
  icases Hd' with ⟨%fd, %hfd, Hd⟩
  iapply (Rounds.wp_send_pointsTo 𝒱 E Rd c bd (κ₁ := κ₁) (κ₂ := κ₂) (r₁ := r₁) (r₂ := r₂) (d₁ := d₁) (d₂ := d₂) (fd := fd) (fs := fs) hd₁ hd₂ ι ι' N hN hk₁ hk₂ O hO
    (by
      refine BIBase.Entails.trans ?_ hpay₁
      subst hfs
      exact owns_intro c src q fs)
    (by
      refine BIBase.Entails.trans ?_ hpay₂
      refine (owns_intro c' dst fullShare _).trans (Entails.of_eq ?_)
      rw [View.read_write_univ, hfs])
    hr)
  isplitl [H1]; · iexact H1
  isplitl [H2]; · iexact H2
  isplitl [Hs]; · iexact Hs
  isplitl [Hd]; · iexact Hd
  isplitl [HO]; · iexact HO
  isplitl [Ht1]; · iexact Ht1
  isplitl [Hr1]; · iexact Hr1
  isplitl [Ht2]; · iexact Ht2
  iexact Hr2

/-- Squeezing keeps that something is owned at some contents. -/
theorem ownsSat_squeeze (c : Thread nD τ) {sp : Space} {s s' : Shape} (m : Memref sig c.2.kind sp s e) (h : s.Squeezes s') (q : PosShare TreeShare) :
    (ownsSat c m q (fun _ => True) : sProp 𝕄) ⊢ ownsSat c (m.squeeze s' h) q (fun _ => True) := by
  refine (ownsSat_any c _ _).trans ?_
  iintro ⟨%X, H⟩
  iapply (ownsSat_intro c (m.squeeze s' h) q (Φ := fun _ => True) (X := fun j => X (Shape.reshapeEquiv h.numel_eq j)) trivial)
  rw [owns_squeeze]
  iexact H

/-- A remote copy of slot `h` of a stack on `c` to slot `h'` of a stack on `c'`, each squeezed to the slot's own shape. -/
theorem wp_send_slot {sp sp' : Space} {a b : ℕ} {s' : Shape} {c' : Thread nD τ} (M : Memref sig c.2.kind sp (stackSh a b) e) (M' : Memref sig c'.2.kind sp' (stackSh a b) e)
    (h h' : Fin 8) {off off' : Fin 3 → ℕ} (ho : off = ![h.val, 0, 0]) (ho' : off' = ![h'.val, 0, 0])
    {inb : ∀ i, off i + (![1, a, b] : Fin 3 → ℕ) i ≤ (stackSh a b).size i} {inb' : ∀ i, off' i + (![1, a, b] : Fin 3 → ℕ) i ≤ (stackSh a b).size i}
    {st : ∀ i, (Rect.unit (s := stackSh a b) off ![1, a, b] inb).stride i = 1} {st' : ∀ i, (Rect.unit (s := stackSh a b) off' ![1, a, b] inb').stride i = 1}
    {sq sq' : (slotSh a b).Squeezes s'}
    {hsc : ((M'.slice (Rect.unit (s := stackSh a b) off' ![1, a, b] inb') st').squeeze s' sq').view.ref.isScScratch = false} {sS sem : SemLoc sig}
    {hsrc : ((M.slice (Rect.unit (s := stackSh a b) off ![1, a, b] inb) st).squeeze s' sq).view.WordExact}
    {hdst : ((M'.slice (Rect.unit (s := stackSh a b) off' ![1, a, b] inb') st').squeeze s' sq').view.WordExact}
    {hsem : DmaTarget.Typed sp sem (.remote c' ((M'.slice (Rect.unit (s := stackSh a b) off' ![1, a, b] inb') st').squeeze s' sq') sS hsc)}
    {k : PUnit → Prog (TpuEff nD τ sig Val Λ c.2) α} {q : PosShare TreeShare} {X : (slotSh a b).Idx → Val e} {r₁ r₂ : ℕ} {d₁ d₂ : D}
    {κ₁ κ₂ : Name} (hd₁ : d₁ ∈ Rd.duties (c, sS) r₁) (hd₂ : d₂ ∈ Rd.duties (c', sem) r₂)
    (ι ι' : Ix) (N : ℕ) (hN : ((M'.slice (Rect.unit (s := stackSh a b) off' ![1, a, b] inb') st').squeeze s' sq').view.amount sem = N)
    (hk₁ : Rd.amount (c, sS) r₁ d₁ = N) (hk₂ : Rd.amount (c', sem) r₂ d₂ = N)
    {O₀ : CellTallies nD τ sig Ix} (O : CellTallies nD τ sig Ix) (hO : O₀ = O + tallyAt (c', sem) ι N) {W : Waits sig Ix}
    (hpay₁ : (slotOwn c M h q X : sProp 𝕄) ⊢ Rd.payload (c, sS) r₁ d₁)
    (hpay₂ : (slotOwn c' M' h' fullShare X : sProp 𝕄) ⊢ Rd.payload (c', sem) r₂ d₂) {Es : Set Name} (hr : τ.routes c c' = true) :
    iprop(cellInv E Rd κ₁ (c, sS) ∗ cellInv E Rd κ₂ (c', sem)
        ∗ slotOwn c M h q X ∗ slotAny c' M' h'
        ∗ owes c O₀ W
        ∗ dutyTok E (c, sS) r₁ d₁ ∗ reached E (c, sS) r₁
        ∗ dutyTok E (c', sem) r₂ d₂ ∗ reached E (c', sem) r₂)
      ⊢ iprop(((cred (tallyAt (c, sS) ι' N) ∗ owes c O W) -∗ wp frame (wpE' defs 𝒱 c bd Γ) Es (k ⟨⟩) Q)
          -∗ wp frame (wpE' defs 𝒱 c bd Γ) Es (.op (.enqueueDma ((M.slice (Rect.unit (s := stackSh a b) off ![1, a, b] inb) st).squeeze s' sq)
              (.remote c' ((M'.slice (Rect.unit (s := stackSh a b) off' ![1, a, b] inb') st').squeeze s' sq') sS hsc) sem hsrc hdst hsem) k) Q) := by
  subst ho ho'
  iintro ⟨H1, H2, Hs, Hd, HO, Ht1, Hr1, Ht2, Hr2⟩
  iapply (wp_send_owns 𝒱 E Rd c bd (κ₁ := κ₁) (κ₂ := κ₂) (r₁ := r₁) (r₂ := r₂) (d₁ := d₁) (d₂ := d₂) (q := q)
    (X := fun j => X (Shape.reshapeEquiv sq.numel_eq j)) hd₁ hd₂ ι ι' N hN hk₁ hk₂ O hO
    (by rw [owns_squeeze]; exact hpay₁) (by rw [owns_squeeze]; exact hpay₂) hr)
  isplitl [H1]; · iexact H1
  isplitl [H2]; · iexact H2
  isplitl [Hs]; · rw [owns_squeeze]; iexact Hs
  isplitl [Hd]; · iapply (ownsSat_squeeze c' (slotM c' M' h') sq' fullShare); iexact Hd
  isplitl [HO]; · iexact HO
  isplitl [Ht1]; · iexact Ht1
  isplitl [Hr1]; · iexact Hr1
  isplitl [Ht2]; · iexact Ht2
  iexact Hr2

end Send

/-! ## Semaphores of an array of eight -/

/-- The index `h` of a row of eight. -/
def rowIx (h : Fin 8) : (⟨1, ![8]⟩ : Shape).Idx := fun i => ⟨h.val, by fin_cases i; exact h.isLt⟩

/-- The element `h` of a row of eight semaphores, however it is picked. -/
theorem sem_at {β : Type} (A : SemArray β ⟨1, ![8]⟩) (h : Fin 8) {off : Fin 1 → ℕ} (ho : off = ![h.val])
    {inb : ∀ i, off i + (![1] : Fin 1 → ℕ) i ≤ (⟨1, ![8]⟩ : Shape).size i} {d : Fin 0 → ℕ} (sq : (⟨1, ![1]⟩ : Shape).Squeezes ⟨0, d⟩) :
    ((A.slice (Rect.unit (s := ⟨1, ![8]⟩) off ![1] inb)).squeeze ⟨0, d⟩ sq).sem = A.ix (rowIx h) := by
  subst ho
  show A.ix _ = A.ix _
  congr 1
  funext i
  have hi : i = 0 := Subsingleton.elim _ _
  subst hi
  apply Fin.ext
  show ((Rect.unit (s := ⟨1, ![8]⟩) ![h.val] ![1] inb).emb _ 0).val = h.val
  rw [Rect.emb_apply]
  generalize (Shape.reshapeEquiv sq.numel_eq _ : (⟨1, ![1]⟩ : Shape).Idx) = j
  have : (j 0).val < 1 := (j 0).isLt
  have h0 : (j 0).val = 0 := by omega
  simp [h0]

end Cert.Slots

end
-- ==== Proof.Protocol.lean ====
/-
# The kernel's protocol

Eight devices exchange heads of an attention: device `c` computes, for every head `h`, a numerator block and a row of
denominators over its own keys, sends both to device `h`, gathers what the others computed for head `c`, divides, and
sends the quotient to every other device. This module states that exchange as a schedule of duties on semaphore cells:
which cell each completion pays, what is handed over with it, what each device owes, and in what order cells may be
waited on.
-/
module

public import proofs.«01_k».proof.Proof.Slots
public import proofs.«01_k».proof.Proof.Gen.KernelIdeal
public import proofs.«01_k».proof.Proof.Gen.KernelIdeal.Skeleton
public import proofs.«01_k».proof.Proof.Gen.KernelIdeal.Launch

@[expose] public section

noncomputable section

namespace Cert.Attn

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra: the staging protocol's part and the exchange's, whose duties are named by devices -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## Buffers and cells -/

abbrev xM : Memref sig .tc .vmem S512x1024 .bf16 := Memref.whole cc0_stg0_0
abbrev wqM : Memref sig .tc .vmem S1024x1024 .bf16 := Memref.whole cc0_stg1_0
abbrev woM : Memref sig .tc .vmem S1024x1024 .bf16 := Memref.whole cc0_stg2_0
abbrev kM : Memref sig .tc .vmem S2048x256 .bf16 := Memref.whole cc0_stg3_0
abbrev vM : Memref sig .tc .vmem S2048x256 .bf16 := Memref.whole cc0_stg4_0
abbrev outM : Memref sig .tc .vmem S512x1024 .f32 := Memref.whole cc0_stg5_0
/-- Numerators and denominators a device computed, by head; -/
abbrev soM : Memref sig .tc .vmem S8x128x512 .bf16 := Memref.whole cc0_scratch0
abbrev slM : Memref sig .tc .vmem S8x1x512 .f32 := Memref.whole cc0_scratch1
/-- those it received for its own head, by sender; -/
abbrev roM : Memref sig .tc .vmem S8x128x512 .bf16 := Memref.whole cc0_scratch2
abbrev rlM : Memref sig .tc .vmem S8x1x512 .f32 := Memref.whole cc0_scratch3
/-- and the quotients, by head. -/
abbrev agM : Memref sig .tc .vmem S8x128x512 .bf16 := Memref.whole cc0_scratch4

/-- The barrier semaphore. -/
abbrev barS : Sem sig := (SemArray.scalar (sig.barrier 0 rfl) : Sems sig S_).sem

set_option backward.proofsInPublic true in
/-- Semaphore `h` of array `a` of the six arrays of eight: numerators sent (0) and received (1), denominators sent (2) and
    received (3), quotients sent (4) and received (5). -/
def dsem (a : Fin 6) (h : Fin 8) : DmaSem sig := ⟨6 + 8 * a.val + h.val, by have := a.isLt; have := h.isLt; show _ < 54; omega⟩

theorem sem5 (h : Fin 8) : (cc0_scratch5 : DmaSems sig S8).ix (rowIx h) = dsem 0 h := by revert h; decide
theorem sem6 (h : Fin 8) : (cc0_scratch6 : DmaSems sig S8).ix (rowIx h) = dsem 1 h := by revert h; decide
theorem sem7 (h : Fin 8) : (cc0_scratch7 : DmaSems sig S8).ix (rowIx h) = dsem 2 h := by revert h; decide
theorem sem8 (h : Fin 8) : (cc0_scratch8 : DmaSems sig S8).ix (rowIx h) = dsem 3 h := by revert h; decide
theorem sem9 (h : Fin 8) : (cc0_scratch9 : DmaSems sig S8).ix (rowIx h) = dsem 4 h := by revert h; decide
theorem sem10 (h : Fin 8) : (cc0_scratch10 : DmaSems sig S8).ix (rowIx h) = dsem 5 h := by revert h; decide

/-- The cells of a device: its barrier, and the semaphores of the six arrays. -/
abbrev KI : Type := Option (Fin 6 × Fin 8)

/-- The semaphore of a kind of cell. -/
def csem : KI → SemLoc sig
  | none => .reg barS
  | some (a, h) => .dma (dsem a h)

abbrev cell (c : Dev nD) (k : KI) : GSem nD τ sig := ((c : Thread nD τ), csem k)

set_option backward.proofsInPublic true in
/-- Which of a device's cells a semaphore is, the staging buffers' being none. -/
def kind : SemLoc sig → Option KI
  | .reg _ => some none
  | .dma q => if 6 ≤ q.val then some (some (⟨(q.val - 6) / 8 % 6, Nat.mod_lt _ (by decide)⟩, ⟨(q.val - 6) % 8, Nat.mod_lt _ (by decide)⟩)) else none

/-- The kind of that semaphore is the one given, -/
theorem kind_csem (k : KI) : kind (csem k) = some k := by revert k; decide

/-- so different kinds have different semaphores, -/
theorem csem_inj : Function.Injective csem := fun k k' h => Option.some_injective _ (by rw [← kind_csem k, ← kind_csem k', h])

/-- and different devices or kinds different cells. -/
theorem cell_inj {c c' : Dev nD} {k k' : KI} : Iff (cell c k = cell c' k') (c = c' ∧ k = k') :=
  ⟨fun h => ⟨congrArg (fun g : GSem nD τ sig => g.1.1) h, csem_inj (congrArg Prod.snd h)⟩, fun h => by rw [h.1, h.2]⟩

/-- What a copied block pays: a numerator or quotient, -/
abbrev No : ℕ := ((slotM ((0 : Dev nD) : Thread nD τ) soM 0).squeeze S128x512 squeezes_S1x128x512_S128x512).view.dmaCredit
/-- a row of denominators. -/
abbrev Nl : ℕ := ((slotM ((0 : Dev nD) : Thread nD τ) slM 0).squeeze S1x512 squeezes_S1x1x512_S1x512).view.dmaCredit
/-- Both amounts are positive. -/
theorem No_pos : 0 < No := View.dmaCredit_pos _ (by decide)
theorem Nl_pos : 0 < Nl := View.dmaCredit_pos _ (by decide)

/-- What the copies into the array's cells pay. -/
def amtOf (a : Fin 6) : ℕ := if a = 2 ∨ a = 3 then Nl else No
/-- The amount is positive at every array. -/
theorem amtOf_pos (a : Fin 6) : 0 < amtOf a := by
  unfold amtOf; split
  · exact Nl_pos
  · exact No_pos

set_option backward.proofsInPublic true in
/-- The device `d` places up the ring of devices. -/
def up (c : Dev nD) (d : ℕ) : Dev nD := ⟨(c.val + d) % 8, Nat.mod_lt _ (by decide)⟩

/-! ## Contents -/

/-- The blocks staged at device `c`: the queries' input, the two weight matrices, and the device's keys and values. -/
def xs (c : Dev nD) : (cc0_stg0_0 : Ref sig .tc).ty.Contents (Elt F) :=
  (win0_0.blk (0 : Fin 1)).view.read (Elt F) ((s₀ m ρ).mem ((c : Thread nD τ).loc main_arg0))
def wqs (c : Dev nD) : (cc0_stg1_0 : Ref sig .tc).ty.Contents (Elt F) :=
  (win0_1.blk (0 : Fin 1)).view.read (Elt F) ((s₀ m ρ).mem ((c : Thread nD τ).loc main_arg1))
def wos (c : Dev nD) : (cc0_stg2_0 : Ref sig .tc).ty.Contents (Elt F) :=
  (win0_2.blk (0 : Fin 1)).view.read (Elt F) ((s₀ m ρ).mem ((c : Thread nD τ).loc main_arg2))
def ks (c : Dev nD) : (cc0_stg3_0 : Ref sig .tc).ty.Contents (Elt F) :=
  (win0_3.blk (0 : Fin 1)).view.read (Elt F) ((s₀ m ρ).mem ((c : Thread nD τ).loc main_arg3))
def vs (c : Dev nD) : (cc0_stg4_0 : Ref sig .tc).ty.Contents (Elt F) :=
  (win0_4.blk (0 : Fin 1)).view.read (Elt F) ((s₀ m ρ).mem ((c : Thread nD τ).loc main_arg4))

/-- The scaled queries, and the keys and values as the kernel holds them. -/
def qv (c : Dev nD) : FVec F S512x1024 .bf16 := k0_pay1 (xs m ρ c) (wqs m ρ c)
def kv (c : Dev nD) : FVec F S2048x256 .bf16 := k0_pay2 (ks m ρ c)
def vv (c : Dev nD) : FVec F S2048x256 .bf16 := k0_pay3 (vs m ρ c)

/-- The numerators device `c` computes for head `h` over its own keys, -/
def Oc (c : Dev nD) : Fin 8 → FVec F S1x128x512 .bf16
  | 0 => k0_pay7 (k0_pay6 (xs m ρ c) (wqs m ρ c) (ks m ρ c) (vs m ρ c))
  | 1 => k0_pay10 (qv m ρ c) (kv m ρ c) (vv m ρ c)
  | 2 => k0_pay15 (k0_pay14 (qv m ρ c) (kv m ρ c) (vv m ρ c))
  | 3 => k0_pay18 (qv m ρ c) (kv m ρ c) (vv m ρ c)
  | 4 => k0_pay22 (k0_pay20 (vv m ρ c)) (k0_pay21 (qv m ρ c) (kv m ρ c))
  | 5 => k0_pay25 (qv m ρ c) (kv m ρ c) (vv m ρ c)
  | 6 => k0_pay28 (qv m ρ c) (kv m ρ c) (vv m ρ c)
  | 7 => k0_pay31 (qv m ρ c) (kv m ρ c) (vv m ρ c)

/-- and the denominators. -/
def Lc (c : Dev nD) : Fin 8 → FVec F S1x1x512 .f32
  | 0 => k0_pay8 (k0_pay5 (xs m ρ c) (wqs m ρ c) (ks m ρ c))
  | 1 => k0_pay11 (qv m ρ c) (kv m ρ c)
  | 2 => k0_pay16 (k0_pay13 (qv m ρ c) (kv m ρ c))
  | 3 => k0_pay19 (qv m ρ c) (kv m ρ c)
  | 4 => k0_pay23 (k0_pay21 (qv m ρ c) (kv m ρ c))
  | 5 => k0_pay26 (qv m ρ c) (kv m ρ c)
  | 6 => k0_pay29 (qv m ρ c) (kv m ρ c)
  | 7 => k0_pay32 (qv m ρ c) (kv m ρ c)

/-- The numerators device `c` gathers for its own head, in the order it adds them up: its own, then those of the devices
    up the ring; -/
abbrev oAt (c : Dev nD) (d : ℕ) : FVec F S1x128x512 .bf16 := Oc m ρ (up c d) c
abbrev lAt (c : Dev nD) (d : ℕ) : FVec F S1x1x512 .f32 := Lc m ρ (up c d) c

/-- the running sums of the numerators -/
def oSum1 (c : Dev nD) := k0_pay34 (oAt m ρ c 0) (oAt m ρ c 1)
def oSum2 (c : Dev nD) := k0_pay35 (oSum1 m ρ c) (oAt m ρ c 2)
def oSum3 (c : Dev nD) := k0_pay37 (oSum2 m ρ c) (oAt m ρ c 3)
def oSum4 (c : Dev nD) := k0_pay39 (oSum3 m ρ c) (oAt m ρ c 4)
def oSum6 (c : Dev nD) := k0_pay41 (oSum4 m ρ c) (oAt m ρ c 5) (oAt m ρ c 6)
/-- and of the denominators; -/
def lSum0 (c : Dev nD) := k0_pay33 (lAt m ρ c 0)
def lSum2 (c : Dev nD) := k0_pay36 (lSum0 m ρ c) (lAt m ρ c 1) (lAt m ρ c 2)
def lSum3 (c : Dev nD) := k0_pay38 (lSum2 m ρ c) (lAt m ρ c 3)
def lSum4 (c : Dev nD) := k0_pay40 (lSum3 m ρ c) (lAt m ρ c 4)
def lSum6 (c : Dev nD) := k0_pay42 (lSum4 m ρ c) (lAt m ρ c 5) (lAt m ρ c 6)

/-- the quotient: head `c` of the attention. -/
def Ac (c : Dev nD) : FVec F S1x128x512 .bf16 := k0_pay43 (oSum6 m ρ c) (lSum6 m ρ c) (oAt m ρ c 7) (lAt m ρ c 7)

/-- The rows of one head lie within the weight of the projection. -/
theorem wo_inb (h : Fin 8) : ∀ i, (![128 * h.val, 0] : Fin 2 → ℕ) i + S128x1024.size i ≤ S1024x1024.size i := by
  intro i
  have := h.isLt
  fin_cases i <;> simp [S128x1024, S1024x1024] <;> omega

/-- The rows of the output projection that head `h` meets. -/
def woRows (c : Dev nD) (h : Fin 8) : Vec F S128x1024 .bf16 :=
  woM.view.readAt (Elt F) (Rect.unit (s := S1024x1024) ![128 * h.val, 0] S128x1024.size (wo_inb h)).toLoadRect (wos m ρ c)

abbrev aAt (c : Dev nD) (d : ℕ) : FVec F S1x128x512 .bf16 := Ac m ρ (up c d)
abbrev wAt (c : Dev nD) (d : ℕ) : Vec F S128x1024 .bf16 := woRows m ρ c (up c d)

/-- The running sums of the projected heads, -/
def acc0 (c : Dev nD) := k0_pay44 (wAt m ρ c 0) (aAt m ρ c 0)
def acc2 (c : Dev nD) := k0_pay45 (acc0 m ρ c) (wAt m ρ c 1) (aAt m ρ c 1) (wAt m ρ c 2) (aAt m ρ c 2)
def acc4 (c : Dev nD) := k0_pay46 (acc2 m ρ c) (wAt m ρ c 3) (aAt m ρ c 3) (wAt m ρ c 4) (aAt m ρ c 4)
def acc6 (c : Dev nD) := k0_pay47 (acc4 m ρ c) (wAt m ρ c 5) (aAt m ρ c 5) (wAt m ρ c 6) (aAt m ρ c 6)
/-- and what device `c` writes out. -/
def outc (c : Dev nD) : (cc0_stg5_0 : Ref sig .tc).ty.Contents (Elt F) := k0_pay48 (acc6 m ρ c) (wAt m ρ c 7) (aAt m ρ c 7)

/-! ## The schedule -/

/-- What device `d` hands device `c` at the barrier: the slots its incoming copies from `c` land in. -/
def barPay (d c : Dev nD) : sProp 𝕄 := iprop(slotAny (d : Thread nD τ) roM c ∗ slotAny (d : Thread nD τ) rlM c ∗ slotAny (d : Thread nD τ) agM c)

/-- What a completed copy hands the waiter at cell `(a, h)` of device `c`: a source slot back, or a landed slot. -/
def dmaPay (c : Dev nD) (h : Fin 8) (a : Fin 6) : sProp 𝕄 := match a with
  | 0 => slotOwn (c : Thread nD τ) soM h fullShare (Oc m ρ c h)
  | 1 => slotOwn (c : Thread nD τ) roM h fullShare (Oc m ρ h c)
  | 2 => slotOwn (c : Thread nD τ) slM h fullShare (Lc m ρ c h)
  | 3 => slotOwn (c : Thread nD τ) rlM h fullShare (Lc m ρ h c)
  | 4 => slotOwn (c : Thread nD τ) agM c (ShareLeaves.leaf 3 fullShare h) (Ac m ρ c)
  | 5 => slotOwn (c : Thread nD τ) agM h fullShare (Ac m ρ h)

instance barPay_storable (d c : Dev nD) : BI.Storable (upEmb : UEmb _ 𝕄) (barPay (F := F) d c) := by unfold barPay; infer_instance
instance dmaPay_storable (c : Dev nD) (h : Fin 8) (a : Fin 6) : BI.Storable (upEmb : UEmb _ 𝕄) (dmaPay (F := F) m ρ c h a) := by
  fin_cases a <;> (dsimp only [dmaPay]; infer_instance)

/-- One round. A barrier cell has a duty of every other device, of one unit; cell `(a, h)` of device `c ≠ h` one duty,
    named by the peer `h`, of what the copy pays. -/
def sched : Rounds.Schedule (GSem nD τ sig) (Fin 8) 𝕄 where
  duties g r := if r = 0 ∧ g.1.2 = .tc then (match kind g.2 with
      | none => ∅
      | some none => Finset.univ.erase g.1.1
      | some (some (a, h)) => if h = g.1.1 then ∅ else {h})
    else ∅
  unitless _ := False
  amount g _ _ := match kind g.2 with
    | some (some (a, _)) => amtOf a
    | _ => 1
  payload g _ d := match kind g.2 with
    | none => iprop(emp)
    | some none => barPay d g.1.1
    | some (some (a, h)) => dmaPay m ρ g.1.1 h a
  amount_pos g _ _ _ := by
    split
    · exact amtOf_pos _
    · exact Nat.one_pos

instance sched_payload_storable (g : GSem nD τ sig) (r : ℕ) (d : Fin 8) :
    BI.Storable (upEmb : UEmb _ 𝕄) ((sched (F := F) m ρ).payload g r d) := by
  dsimp only [sched]
  split <;> infer_instance

section Sched
variable (c : Dev nD)

/-- The barrier's duties are of all peers, -/
theorem duties_bar : (sched (F := F) m ρ).duties (cell c none) 0 = Finset.univ.erase c := by
  dsimp only [sched]; rw [if_pos ⟨rfl, rfl⟩, kind_csem]
/-- a peer's cell has the one of its payer, -/
theorem duties_dma (a : Fin 6) {h : Fin 8} (hh : h ≠ c) : (sched (F := F) m ρ).duties (cell c (some (a, h))) 0 = {h} := by
  dsimp only [sched]; rw [if_pos ⟨rfl, rfl⟩, kind_csem]; exact if_neg hh
/-- a device's cell for itself has none, -/
theorem duties_self (a : Fin 6) : ∀ r, 0 ≤ r → (sched (F := F) m ρ).duties (cell c (some (a, c))) r = ∅ := by
  intro r _
  dsimp only [sched]; split
  · rw [kind_csem]; exact if_pos rfl
  · rfl
/-- and no cell has any after the first round. -/
theorem duties_later (g : GSem nD τ sig) : ∀ r, 1 ≤ r → (sched (F := F) m ρ).duties g r = ∅ :=
  fun r hr => by dsimp only [sched]; rw [if_neg fun h => by omega]

/-- A barrier's duty is a unit, -/
theorem amount_bar (d : Fin 8) : (sched (F := F) m ρ).amount (cell c none) 0 d = 1 := by dsimp only [sched]; rw [kind_csem]
/-- an array cell's a block. -/
theorem amount_dma (a : Fin 6) (h d : Fin 8) : (sched (F := F) m ρ).amount (cell c (some (a, h))) 0 d = amtOf a := by
  dsimp only [sched]; rw [kind_csem]

/-- A barrier's duty hands over receiving slots, -/
theorem payload_bar (d : Fin 8) : (sched (F := F) m ρ).payload (cell c none) 0 d = barPay d c := by dsimp only [sched]; rw [kind_csem]
/-- an array cell's the copied block. -/
theorem payload_dma (a : Fin 6) (h d : Fin 8) : (sched (F := F) m ρ).payload (cell c (some (a, h))) 0 d = dmaPay m ρ c h a := by
  dsimp only [sched]; rw [kind_csem]

/-- A barrier expects seven units, -/
theorem expect_bar : (sched (F := F) m ρ).expect (cell c none) 0 = 7 := by
  unfold Schedule.expect Schedule.amountOf
  rw [duties_bar, Finset.sum_congr rfl fun d _ => amount_bar m ρ c d, Finset.sum_const, Finset.card_erase_of_mem (Finset.mem_univ _), Finset.card_univ]
  rfl
/-- an array cell one block. -/
theorem expect_dma (a : Fin 6) {h : Fin 8} (hh : h ≠ c) : (sched (F := F) m ρ).expect (cell c (some (a, h))) 0 = amtOf a := by
  unfold Schedule.expect Schedule.amountOf; rw [duties_dma m ρ c a hh, Finset.sum_singleton, amount_dma]

/-- All that a barrier hands over, -/
theorem rest_bar : bigSep ((sched (F := F) m ρ).duties (cell c none) 0 \ ∅) (fun d => (sched (F := F) m ρ).payload (cell c none) 0 d)
    = bigSep (Finset.univ.erase c) fun d => barPay d c := by
  rw [Finset.sdiff_empty, duties_bar]
  exact bigSep_congr fun d _ => payload_bar m ρ c d
/-- and all that an array cell does. -/
theorem rest_dma (a : Fin 6) {h : Fin 8} (hh : h ≠ c) :
    bigSep ((sched (F := F) m ρ).duties (cell c (some (a, h))) 0 \ ∅) (fun d => (sched (F := F) m ρ).payload (cell c (some (a, h))) 0 d)
      = dmaPay m ρ c h a := by
  rw [Finset.sdiff_empty, duties_dma m ρ c a hh, bigSep_singleton, payload_dma]

end Sched

/-! ## What each device owes -/

/-- A debt: a cell and the units owed to it. -/
abbrev Debt : Type := GSem nD τ sig × ℕ

/-- What a list of debts owes, its head the last summand. -/
def tally : List Debt → CellTallies nD τ sig Unit
  | [] => 0
  | e :: l => tally l + tallyAt e.1 () e.2

/-- The debts of device `c`: a barrier unit to the devices at distances `ds`; -/
def barDebts (c : Dev nD) (ds : List ℕ) : List Debt := ds.map fun d => (cell (up c d) none, 1)
/-- of each of the heads `hs` that is not its own, the numerators and the denominators to the head's device; -/
def headDebts (c : Dev nD) (hs : List (Fin 8)) : List Debt :=
  hs.flatMap fun h => if h = c then [] else [(cell h (some (1, c)), amtOf 1), (cell h (some (3, c)), amtOf 3)]
/-- its quotient to the devices at distances `ds`. -/
def agDebts (c : Dev nD) (ds : List ℕ) : List Debt := ds.map fun d => (cell (up c d) (some (5, c)), amtOf 5)

/-- The debts in the order they are paid. -/
def debts (c : Dev nD) : List Debt := barDebts c [1, 2, 3, 4, 5, 6, 7] ++ (headDebts c [0, 1, 2, 3, 4, 5, 6, 7] ++ agDebts c [1, 2, 3, 4, 5, 6, 7])

/-- What a device owes at the start. -/
def O₀ (c : Dev nD) : CellTallies nD τ sig Unit := tally (debts c)

/-- What a list of debts owes one cell. -/
theorem tally_apply (l : List Debt) (g : GSem nD τ sig) : tally l g () = (l.map fun e => if g = e.1 then e.2 else 0).sum := by
  induction l with
  | nil => rfl
  | cons e l ih =>
    show (tally l + tallyAt e.1 () e.2) g () = _
    rw [Pi.add_apply, Finsupp.add_apply, ih, tallyAt_apply, List.map_cons, List.sum_cons, Nat.add_comm]
    congr 1
    by_cases h : g = e.1
    · rw [if_pos h, if_pos ⟨h, rfl⟩]
    · rw [if_neg h, if_neg fun h' => h h'.1]

/-- A cell that is owed something is in the list. -/
theorem tally_pos {l : List Debt} {g : GSem nD τ sig} {u : Unit} (h : 0 < tally l g u) : ∃ e ∈ l, g = e.1 := by
  cases u
  rw [tally_apply] at h
  by_contra hn
  push Not at hn
  rw [List.sum_eq_zero] at h
  · exact Nat.lt_irrefl 0 h
  · intro x hx
    obtain ⟨e, he, rfl⟩ := List.mem_map.mp hx
    exact if_neg (hn e he)

/-! ## The order of the waits -/

/-- The one index at which a TensorCore cell has a level. -/
def L (g : GSem nD τ sig) : Finset Unit := if g.1.2 = .tc then {()} else ∅
/-- The level of a cell: barriers below the heads' arrivals, those below the quotients' arrivals, everything else at the bottom. -/
def lvk : Option KI → ℕ
  | some none => 1
  | some (some (a, _)) => if a = 1 ∨ a = 3 then 2 else if a = 5 then 3 else 0
  | none => 0
/-- The level of a cell of the launch. -/
def lv (g : GSem nD τ sig) (_ : Unit) : ℕ := lvk (kind g.2)

/-- A cell off the TensorCores has no level, -/
theorem L_of_ne (g : GSem nD τ sig) (h : g.1.2 ≠ .tc) : L g = ∅ := if_neg h
/-- and one on them has just one. -/
theorem L_tc (c : Dev nD) (sm : SemLoc sig) : L ((c : Thread nD τ), sm) = {()} := if_pos rfl

/-- A wait is allowed when everything still owed lies at a higher level. -/
theorem mayWait_of (c : Dev nD) (sm : SemLoc sig) (l : List Debt)
    (hl : ∀ e ∈ l, e.1.1.2 = .tc ∧ lvk (kind sm) < lvk (kind e.1.2)) :
    (levAts L lv : sProp 𝕄) ⊢ MayWait (c : Thread nD τ) sm () (tally l) :=
  MayOwe.of_cut (L := L) (lev := lv) (lvk (kind sm)) (fun p hp => by rw [Finset.mem_singleton.mp hp, L_tc]; exact Finset.mem_singleton_self _)
    (fun g u hg => by obtain ⟨e, he, rfl⟩ := tally_pos hg; unfold L; rw [if_pos (hl e he).1]; exact Finset.mem_singleton_self _)
    (fun p hp => by rw [Finset.mem_singleton.mp hp]; exact le_refl _)
    (fun g u hg => by obtain ⟨e, he, rfl⟩ := tally_pos hg; exact (hl e he).2)

/-- The debts of the quotients lie at level 3, -/
theorem agDebts_lv (c : Dev nD) (ds : List ℕ) : ∀ e ∈ agDebts c ds, e.1.1.2 = .tc ∧ lvk (kind e.1.2) = 3 := by
  intro e he
  obtain ⟨d, -, rfl⟩ := List.mem_map.mp he
  exact ⟨rfl, by rw [kind_csem]; rfl⟩
/-- those of the heads at level 2, -/
theorem headDebts_lv (c : Dev nD) (hs : List (Fin 8)) : ∀ e ∈ headDebts c hs, e.1.1.2 = .tc ∧ lvk (kind e.1.2) = 2 := by
  intro e he
  obtain ⟨h, -, he⟩ := List.mem_flatMap.mp he
  split at he
  · cases he
  · rcases List.mem_cons.mp he with rfl | he
    · exact ⟨rfl, by rw [kind_csem]; rfl⟩
    · rw [List.mem_singleton.mp he]
      exact ⟨rfl, by rw [kind_csem]; rfl⟩
/-- those of the barrier at level 1. -/
theorem barDebts_lv (c : Dev nD) (ds : List ℕ) : ∀ e ∈ barDebts c ds, e.1.1.2 = .tc ∧ lvk (kind e.1.2) = 1 := by
  intro e he
  obtain ⟨d, -, rfl⟩ := List.mem_map.mp he
  exact ⟨rfl, by rw [kind_csem]; rfl⟩

/-- Every debt lies above level 0. -/
theorem debts_lv (c : Dev nD) : ∀ e ∈ debts c, e.1.1.2 = .tc ∧ 0 < lvk (kind e.1.2) := by
  intro e he
  rcases List.mem_append.mp he with he | he
  · have := barDebts_lv c _ e he; exact ⟨this.1, by omega⟩
  rcases List.mem_append.mp he with he | he
  · have := headDebts_lv c _ e he; exact ⟨this.1, by omega⟩
  · have := agDebts_lv c _ e he; exact ⟨this.1, by omega⟩

/-! ## The pipeline's proof data -/

/-- The grid has one point: -/
theorem cfg0_N : cfg0.N = 1 := by decide
/-- this one, -/
def t₀ : Fin cfg0.N := ⟨0, by rw [cfg0_N]; decide⟩
/-- and no other. -/
theorem fin_N (t : Fin cfg0.N) : t = t₀ := by
  obtain ⟨t, ht⟩ := t; have := cfg0_N; exact Fin.ext (by simp only [t₀]; omega)

/-- Every cell of every device has its invariant, at names `K`, and stands at round 0. -/
def records (K : Dev nD × KI → ℕ) : sProp 𝕄 :=
  iprop((bigSep Finset.univ fun ck : Dev nD × KI => cellInv ER (sched m ρ) (K ck) (cell ck.1 ck.2))
    ∗ bigSep Finset.univ fun ck : Dev nD × KI => reached ER (cell ck.1 ck.2) 0)

instance records_persistent (K : Dev nD × KI → ℕ) : BI.Persistent (records m ρ K) := by unfold records; infer_instance

/-- The records hold each cell's invariant, -/
theorem inv_at (K : Dev nD × KI → ℕ) (c : Dev nD) (k : KI) : records m ρ K ⊢ cellInv ER (sched m ρ) (K (c, k)) (cell c k) := by
  unfold records
  iintro ⟨#H, -⟩
  iapply (show (bigSep Finset.univ fun ck : Dev nD × KI => (cellInv ER (sched m ρ) (K ck) (cell ck.1 ck.2) : sProp 𝕄))
    ⊢ cellInv ER (sched m ρ) (K (c, k)) (cell c k) from bigSep_elim (Finset.mem_univ (c, k)))
  iexact H
/-- and that it stands at round 0. -/
theorem reached_at (K : Dev nD × KI → ℕ) (c : Dev nD) (k : KI) : records m ρ K ⊢ reached ER (cell c k) 0 := by
  unfold records
  iintro ⟨-, #H⟩
  iapply (show (bigSep Finset.univ fun ck : Dev nD × KI => (reached ER (cell ck.1 ck.2) 0 : sProp 𝕄))
    ⊢ reached ER (cell c k) 0 from bigSep_elim (Finset.mem_univ (c, k)))
  iexact H

/-- The tokens device `c` pays peer `p` with: its barrier unit, the arrivals at the peer, and the completions of its own
    sends to the peer. -/
def payToks (c p : Dev nD) : sProp 𝕄 :=
  iprop(dutyTok ER (cell p none) 0 c ∗ dutyTok ER (cell p (some (1, c))) 0 c ∗ dutyTok ER (cell p (some (3, c))) 0 c ∗ dutyTok ER (cell p (some (5, c))) 0 c
    ∗ dutyTok ER (cell c (some (0, p))) 0 p ∗ dutyTok ER (cell c (some (2, p))) 0 p ∗ dutyTok ER (cell c (some (4, p))) 0 p)

/-- The credit of what peer `p` sends device `c`. -/
def peerCred (c p : Dev nD) : sProp 𝕄 :=
  iprop(cred (tallyAt (cell c (some (1, p))) () (amtOf 1)) ∗ cred (tallyAt (cell c (some (3, p))) () (amtOf 3)) ∗ cred (tallyAt (cell c (some (5, p))) () (amtOf 5)))

/-- What device `c` starts from: the cells' records, its positions, its tokens, its credits and the levels. -/
def start (c : Dev nD) : sProp 𝕄 :=
  iprop((∃ K, records m ρ K) ∗ (bigSep Finset.univ fun k : KI => atPos ER (cell c k) 0 ∅ 0)
    ∗ (bigSep (Finset.univ.erase c) fun p => payToks c p)
    ∗ cred (tallyAt (cell c none) () 7) ∗ (bigSep (Finset.univ.erase c) fun p => peerCred c p) ∗ levAts L lv)

/-- The five scratch buffers, whole, at some contents. -/
def scratch (c : Dev nD) : sProp 𝕄 :=
  iprop(ownsSat (c : Thread nD τ) soM fullShare (fun _ => True) ∗ ownsSat (c : Thread nD τ) slM fullShare (fun _ => True)
    ∗ ownsSat (c : Thread nD τ) roM fullShare (fun _ => True) ∗ ownsSat (c : Thread nD τ) rlM fullShare (fun _ => True)
    ∗ ownsSat (c : Thread nD τ) agM fullShare (fun _ => True))

/-- Before the body: what the device starts from, and the scratch buffers. -/
def Φ₀ (c : Dev nD) : sProp 𝕄 := iprop(start m ρ c ∗ scratch c)
/-- After the body: the scratch buffers, and every cell closed with its counter at zero. -/
def Φ₁ (c : Dev nD) : sProp 𝕄 := iprop(scratch c ∗ bigSep Finset.univ fun k : KI => semVal (cell c k) 0)

/-- The pipeline's account of the run: contents before and after, debts, and what rides along. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => wqs m ρ c
    | ⟨2, _⟩ => wos m ρ c
    | ⟨3, _⟩ => ks m ρ c
    | ⟨4, _⟩ => vs m ρ c
    | ⟨5, _⟩ => outc m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

end Cert.Attn
end
-- ==== Proof.Steps.lean ====
/-
# The steps of the exchange

The rules of the operations by which devices synchronise and exchange blocks, restated for the exchange's schedule: the
signal to a peer's barrier, the wait at the own barrier, the wait at a semaphore of the six arrays, the two copies of a
head's results to its device, and the copy of a quotient to a peer.
-/
module

public import proofs.«01_k».proof.Proof.Protocol

@[expose] public section

noncomputable section

namespace Cert.Attn

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

section Steps

variable (K : Dev nD × KI → ℕ) (c : Dev nD)
variable {α : Type} {Q : α → sProp (MT nD τ sig Unit (Elt F) ℕ UU ℕ)}

/-- Device `c` owes the debts listed, whatever it has waited for. -/
def ow (c : Dev nD) (l : List Debt) : sProp 𝕄 := iprop(∃ W, owes (c : Thread nD τ) (tally l) W)

/-- A place up the ring that is no full turn is another device. -/
theorem up_ne (d : ℕ) (h0 : d % 8 ≠ 0) : up c d ≠ c := by
  intro h
  have h1 := congrArg Fin.val h
  have h2 : c.val < 8 := c.isLt
  simp only [up] at h1
  omega

/-- The signal to peer `n`'s barrier hands over the slots the peer's copies land in. -/
theorem st_signal (n p : Dev nD) (hn : n = p) (hp : p ≠ c) (l : List Debt) {k : PUnit → Prog (TpuEff nD τ sig (Elt F) Λ₀ .tc) α} :
    iprop(records m ρ K ∗ ow c ((cell p none, 1) :: l) ∗ dutyTok ER (cell p none) 0 c ∗ barPay c p)
      ⊢ iprop((ow c l -∗ wp frame (wpE (defs₀ (F := F)) 𝒱₀ (c : Thread nD τ) none) Set.univ (k ⟨⟩) Q)
        -∗ wp frame (wpE (defs₀ (F := F)) 𝒱₀ (c : Thread nD τ) none) Set.univ
            (.op (.semSignal (Dev.tc n : Thread nD τ) barS (1#32).toInt) k) Q) := by
  subst hn
  unfold ow
  iintro ⟨#HR, ⟨%W, HO⟩, Ht, Hp⟩ Hk
  iapply (Rounds.wp_signal 𝒱₀ ER (sched m ρ) (c : Thread nD τ) none (dst := (n : Thread nD τ)) (κ := K (n, none))
      (d := c) (by show c ∈ (sched m ρ).duties (cell n none) 0; rw [duties_bar]; exact Finset.mem_erase.mpr ⟨hp.symm, Finset.mem_univ _⟩) ((amount_bar m ρ n c).trans (by decide)) () (tally l) rfl)
    $$ [HO Ht Hp]
  · isplitr; · iapply (inv_at m ρ K n none); iexact HR
    isplitl [HO]; · iexact HO
    isplitl [Ht]; · iexact Ht
    isplitl [Hp]
    · iapply (show barPay c n ⊢ (sched m ρ).payload ((n : Thread nD τ), SemLoc.reg barS) 0 c from Entails.of_eq (payload_bar m ρ n c).symm)
      iexact Hp
    iapply (reached_at m ρ K n none); iexact HR
  iintro HO
  iapply Hk
  iexists W
  iexact HO

/-- The wait at the own barrier brings the slots the peers set aside for this device's copies. -/
theorem st_barwait (l : List Debt) (hl : ∀ e ∈ l, e.1.1.2 = .tc ∧ 1 < lvk (kind e.1.2)) {k : PUnit → Prog (TpuEff nD τ sig (Elt F) Λ₀ .tc) α} :
    iprop(records m ρ K ∗ levAts L lv ∗ ow c l ∗ cred (tallyAt (cell c none) () 7) ∗ atPos ER (cell c none) 0 ∅ 0)
      ⊢ iprop(((ow c l ∗ atPos ER (cell c none) 1 ∅ 0 ∗ bigSep (Finset.univ.erase c) fun d => barPay d c)
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS (7#32).toInt) k) Q) := by
  unfold ow
  iintro ⟨#HR, #Hlev, ⟨%W, HO⟩, Hc, Ha⟩ Hk
  iapply (Rounds.wp_wait_rest_token 𝒱₀ ER (sched m ρ) (c : Thread nD τ) none (κ := K (c, none))
      (wpE_semWait_eq 𝒱₀ (c : Thread nD τ) none Set.univ) (Set.mem_univ _) () (O := tally l) (W := W) (R := 0) (m := 0) (T := ∅)
      (by rw [show ((c : Thread nD τ), SemLoc.reg barS) = cell c none from rfl, expect_bar]; decide)) $$ [Hc HO Ha]
  · isplitr; · iapply (inv_at m ρ K c none); iexact HR
    isplitl [Hc]; · iexact Hc
    isplitl [HO]; · iexact HO
    isplitr; · iapply (mayWait_of (F := F) c (csem none) l (by rw [kind_csem]; exact hl)); iexact Hlev
    iexact Ha
  iintro ⟨HO, Ha, -, Hp⟩
  iapply Hk
  isplitl [HO]; · iexists _; iexact HO
  isplitl [Ha]; · iexact Ha
  iapply (Entails.of_eq (rest_bar m ρ c)); iexact Hp

/-- A wait at cell `(a, h)` of the six arrays brings what the copy that completes there hands over. -/
theorem st_wait (a : Fin 6) (h : Fin 8) (hh : h ≠ c) (l : List Debt) (hl : ∀ e ∈ l, e.1.1.2 = .tc ∧ lvk (some (some (a, h))) < lvk (kind e.1.2))
    (sem : DmaSem sig) (hs : sem = dsem a h) {sp sp' : Space} {s s' : Shape} {e e' : EltTy}
    {src : Memref sig .tc sp' s' e'} {κ' : Kind} {dst : Memref sig κ' sp s e} (hd : dst.view.dmaCredit = amtOf a)
    {hsrc : src.view.WordExact} {hdst : dst.view.WordExact} {k : PUnit → Prog (TpuEff nD τ sig (Elt F) Λ₀ .tc) α} :
    iprop(records m ρ K ∗ levAts L lv ∗ ow c l ∗ cred (tallyAt (cell c (some (a, h))) () (amtOf a)) ∗ atPos ER (cell c (some (a, h))) 0 ∅ 0)
      ⊢ iprop(((ow c l ∗ atPos ER (cell c (some (a, h))) 1 ∅ 0 ∗ dmaPay m ρ c h a)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst hsrc hdst) k) Q) := by
  subst hs
  unfold ow
  iintro ⟨#HR, #Hlev, ⟨%W, HO⟩, Hc, Ha⟩ Hk
  iapply (Rounds.wp_wait_rest_token 𝒱₀ ER (sched m ρ) (c : Thread nD τ) none (κ := K (c, some (a, h)))
      (wpE_waitDma2_eq 𝒱₀ (c : Thread nD τ) none Set.univ) (Set.mem_univ _) () (O := tally l) (W := W) (R := 0) (m := 0) (T := ∅)
      (by rw [show ((c : Thread nD τ), SemLoc.dma (dsem a h)) = cell c (some (a, h)) from rfl, expect_dma m ρ c a hh, Nat.zero_add, hd])) $$ [Hc HO Ha]
  · isplitr; · iapply (inv_at m ρ K c (some (a, h))); iexact HR
    isplitl [Hc]; · rw [hd]; iexact Hc
    isplitl [HO]; · iexact HO
    isplitr; · iapply (mayWait_of (F := F) c (csem (some (a, h))) l (by rw [kind_csem]; exact hl)); iexact Hlev
    iexact Ha
  iintro ⟨HO, Ha, -, Hp⟩
  iapply Hk
  isplitl [HO]; · iexists _; iexact HO
  isplitl [Ha]; · iexact Ha
  iapply (Entails.of_eq (rest_dma m ρ c a hh)); iexact Hp

/-- A copy of a slot to peer `p`: it completes at the own cell `(a, p)`, giving the slot back, and at the peer's cell
    `(b, c)`, handing over the slot landed in. -/
theorem st_send (a b : Fin 6) (hab : amtOf b = amtOf a) (n p : Dev nD) (hn : n = p) (hp : p ≠ c) (l : List Debt)
    {sp sp' : Space} {x y : ℕ} {e : EltTy} {s' : Shape} (M : Memref sig .tc sp (stackSh x y) e) (M' : Memref sig .tc sp' (stackSh x y) e)
    (h h' : Fin 8) {off off' : Fin 3 → ℕ} (ho : off = ![h.val, 0, 0]) (ho' : off' = ![h'.val, 0, 0])
    (sS sR : DmaSem sig) (hsS : sS = dsem a p) (hsR : sR = dsem b c)
    {q : PosShare TreeShare} {X : (slotSh x y).Idx → Elt F e}
    (hpay₁ : (slotOwn (c : Thread nD τ) M h q X : sProp 𝕄) ⊢ dmaPay m ρ c p a)
    (hpay₂ : (slotOwn (p : Thread nD τ) M' h' fullShare X : sProp 𝕄) ⊢ dmaPay m ρ p c b)
    {inb : ∀ i, off i + (![1, x, y] : Fin 3 → ℕ) i ≤ (stackSh x y).size i} {inb' : ∀ i, off' i + (![1, x, y] : Fin 3 → ℕ) i ≤ (stackSh x y).size i}
    {st : ∀ i, (Rect.unit (s := stackSh x y) off ![1, x, y] inb).stride i = 1} {st' : ∀ i, (Rect.unit (s := stackSh x y) off' ![1, x, y] inb').stride i = 1}
    {sq sq' : (slotSh x y).Squeezes s'}
    (hN : ((M'.slice (Rect.unit (s := stackSh x y) off' ![1, x, y] inb') st').squeeze s' sq').view.amount (.dma sR) = amtOf a)
    {hsc : ((M'.slice (Rect.unit (s := stackSh x y) off' ![1, x, y] inb') st').squeeze s' sq' : Memref sig (Dev.tc n : Thread nD τ).2.kind sp' s' e).view.ref.isScScratch = false}
    {hsrc : ((M.slice (Rect.unit (s := stackSh x y) off ![1, x, y] inb) st).squeeze s' sq).view.WordExact}
    {hdst : ((M'.slice (Rect.unit (s := stackSh x y) off' ![1, x, y] inb') st').squeeze s' sq').view.WordExact}
    {hsem : DmaTarget.Typed sp (.dma sR) (.remote (Dev.tc n : Thread nD τ) ((M'.slice (Rect.unit (s := stackSh x y) off' ![1, x, y] inb') st').squeeze s' sq') (.dma sS) hsc)}
    {k : PUnit → Prog (TpuEff nD τ sig (Elt F) Λ₀ .tc) α} :
    iprop(records m ρ K ∗ ow c ((cell p (some (b, c)), amtOf b) :: l) ∗ dutyTok ER (cell c (some (a, p))) 0 p ∗ dutyTok ER (cell p (some (b, c))) 0 c
        ∗ slotOwn (c : Thread nD τ) M h q X ∗ slotAny (p : Thread nD τ) M' h')
      ⊢ iprop(((cred (tallyAt (cell c (some (a, p))) () (amtOf a)) ∗ ow c l)
          -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma ((M.slice (Rect.unit (s := stackSh x y) off ![1, x, y] inb) st).squeeze s' sq)
              (.remote (Dev.tc n : Thread nD τ) ((M'.slice (Rect.unit (s := stackSh x y) off' ![1, x, y] inb') st').squeeze s' sq') (.dma sS) hsc)
              (.dma sR) hsrc hdst hsem) k) Q) := by
  subst hn hsS hsR
  unfold ow
  iintro ⟨#HR, ⟨%W, HO⟩, Ht1, Ht2, Hs, Hd⟩ Hk
  iapply (wp_send_slot 𝒱₀ ER (sched m ρ) (c : Thread nD τ) none (c' := (n : Thread nD τ)) M M' h h' ho ho' (q := q) (X := X)
      (r₁ := 0) (r₂ := 0) (d₁ := n) (d₂ := c) (κ₁ := K (c, some (a, n))) (κ₂ := K (n, some (b, c)))
      (by show _ ∈ (sched m ρ).duties (cell c (some (a, n))) 0; rw [duties_dma m ρ c a hp]; exact Finset.mem_singleton_self _)
      (by show _ ∈ (sched m ρ).duties (cell n (some (b, c))) 0; rw [duties_dma m ρ n b hp.symm]; exact Finset.mem_singleton_self _)
      () () (amtOf a) hN (amount_dma m ρ c a n n) ((amount_dma m ρ n b c c).trans hab) (tally l) (O₀ := tally ((cell n (some (b, c)), amtOf b) :: l))
      (by rw [← hab]; rfl) (W := W)
      (hpay₁.trans (Entails.of_eq (payload_dma m ρ c a n n).symm))
      (hpay₂.trans (Entails.of_eq (payload_dma m ρ n b c c).symm)) (by routes))
    $$ [HO Ht1 Ht2 Hs Hd]
  · isplitr; · iapply (inv_at m ρ K c (some (a, n))); iexact HR
    isplitr; · iapply (inv_at m ρ K n (some (b, c))); iexact HR
    isplitl [Hs]; · iexact Hs
    isplitl [Hd]; · iexact Hd
    isplitl [HO]; · iexact HO
    isplitl [Ht1]; · iexact Ht1
    isplitr; · iapply (reached_at m ρ K c (some (a, n))); iexact HR
    isplitl [Ht2]; · iexact Ht2
    iapply (reached_at m ρ K n (some (b, c))); iexact HR
  iintro ⟨Hc, HO⟩
  iapply Hk
  isplitl [Hc]; · iexact Hc
  iexists W
  iexact HO

end Steps

end Cert.Attn
end
-- ==== Proof.Heads.lean ====
/-
# The states of a device between the steps

What a device holds towards each peer at each stage of the exchange, and the steps that a head of the attention takes:
computing it, sending it to its device unless that is the device itself, and waiting for the sends to complete.
-/
module

public import proofs.«01_k».proof.Proof.Steps

@[expose] public section

noncomputable section

namespace Cert.Attn

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

section Heads

variable (K : Dev nD × KI → ℕ) (c : Dev nD)
variable {α : Type} {Q : α → sProp (MT nD τ sig Unit (Elt F) ℕ UU ℕ)}

/-- What signalling peer `p` takes. -/
def sig1 (p : Dev nD) : sProp 𝕄 := iprop(dutyTok ER (cell p none) 0 c ∗ barPay c p)

/-- What sending head `h` takes, besides the head's results: tokens and the slots at the head's device. -/
def headIn (h : Fin 8) : sProp 𝕄 :=
  iprop(dutyTok ER (cell c (some (0, h))) 0 h ∗ dutyTok ER (cell h (some (1, c))) 0 c ∗ slotAny ((h : Dev nD) : Thread nD τ) roM c
    ∗ dutyTok ER (cell c (some (2, h))) 0 h ∗ dutyTok ER (cell h (some (3, c))) 0 c ∗ slotAny ((h : Dev nD) : Thread nD τ) rlM c)
/-- The results of head `h`. -/
def headRes (h : Fin 8) : sProp 𝕄 :=
  iprop(slotOwn (c : Thread nD τ) soM h fullShare (Oc m ρ c h) ∗ slotOwn (c : Thread nD τ) slM h fullShare (Lc m ρ c h))
/-- The credits of the two sends of head `h`. -/
def headCred (h : Fin 8) : sProp 𝕄 :=
  iprop(cred (tallyAt (cell c (some (0, h))) () (amtOf 0)) ∗ cred (tallyAt (cell c (some (2, h))) () (amtOf 2)))
/-- The positions at the two send cells of head `h`, at round `r`. -/
def headPos (r : ℕ) (h : Fin 8) : sProp 𝕄 := iprop(atPos ER (cell c (some (0, h))) r ∅ 0 ∗ atPos ER (cell c (some (2, h))) r ∅ 0)

/-- The same, for a head that may be the device's own, which is not sent. -/
def hIn (h : Fin 8) : sProp 𝕄 := if h ≠ c then headIn c h else iprop(emp)
def hMid (h : Fin 8) : sProp 𝕄 := if h ≠ c then headCred c h else headRes m ρ c h
/-- The positions at the send cells of head `h`, none for the device's own head. -/
def hPos (r : ℕ) (h : Fin 8) : sProp 𝕄 := if h ≠ c then headPos c r h else iprop(emp)

/-- What a wait at cell `(a, p)` of device `c` takes, -/
def waitIn (a : Fin 6) (p : Fin 8) : sProp 𝕄 := iprop(cred (tallyAt (cell c (some (a, p))) () (amtOf a)) ∗ atPos ER (cell c (some (a, p))) 0 ∅ 0)
/-- and what it leaves. -/
def waitOut (a : Fin 6) (p : Fin 8) : sProp 𝕄 := iprop(atPos ER (cell c (some (a, p))) 1 ∅ 0 ∗ dmaPay m ρ c p a)

/-- What sending the quotient to peer `p` takes, besides a share of it. -/
def agIn (p : Fin 8) : sProp 𝕄 :=
  iprop(dutyTok ER (cell c (some (4, p))) 0 p ∗ dutyTok ER (cell p (some (5, c))) 0 c ∗ slotAny ((p : Dev nD) : Thread nD τ) agM c)
/-- A share of the quotient, one of eight. -/
def agShare (p : Fin 8) : sProp 𝕄 := slotOwn (c : Thread nD τ) agM c (ShareLeaves.leaf 3 fullShare p) (Ac m ρ c)
/-- The credit of the send. -/
def agCred (p : Fin 8) : sProp 𝕄 := cred (tallyAt (cell c (some (4, p))) () (amtOf 4))

/-- Computing head `h`: its numerators and denominators are stored, what the slots held before not mattering. -/
theorem st_compute (h : Fin 8) {off off' : Fin 3 → ℕ} (ho : off = ![h.val, 0, 0]) (ho' : off' = ![h.val, 0, 0])
    {w : FVec F S1x128x512 .bf16} {w' : FVec F S1x1x512 .f32} (hw : w = Oc m ρ c h) (hw' : w' = Lc m ρ c h)
    {inb : ∀ i, off i + S1x128x512.size i ≤ S8x128x512.size i} {inb' : ∀ i, off' i + S1x1x512.size i ≤ S8x1x512.size i}
    {hl' : slM.view.LoadsAt (Rect.unit (s := S8x1x512) off' S1x1x512.size inb').toLoadRect}
    {hx : (soM.access (Rect.unit (s := S8x128x512) off S1x128x512.size inb)).Stores Finset.univ}
    {hx' : (slM.access (Rect.unit (s := S8x1x512) off' S1x1x512.size inb')).Stores Finset.univ}
    {hm : Finset.univ = Finset.univ ∨ ∀ i, (Rect.unit (s := S8x128x512) off S1x128x512.size inb).stride i = 1}
    {hm' : Finset.univ = Finset.univ ∨ ∀ i, (Rect.unit (s := S8x1x512) off' S1x1x512.size inb').stride i = 1}
    {k : Prog (TpuEff nD τ sig (Elt F) Λ₀ .tc) α} :
    iprop(slotAny (c : Thread nD τ) soM h ∗ slotAny (c : Thread nD τ) slM h)
      ⊢ iprop((headRes m ρ c h -∗ wp frame (wpE (defs₀ (F := F)) 𝒱₀ (c : Thread nD τ) none) Set.univ k Q)
        -∗ wp frame (wpE (defs₀ (F := F)) 𝒱₀ (c : Thread nD τ) none) Set.univ
            (.op (.store soM (Rect.unit (s := S8x128x512) off S1x128x512.size inb) w Finset.univ hx hm) fun _ =>
              .op (.load slM (Rect.unit (s := S8x1x512) off' S1x1x512.size inb').toLoadRect hl') fun _ =>
                .op (.store slM (Rect.unit (s := S8x1x512) off' S1x1x512.size inb') w' Finset.univ hx' hm') fun _ => k) Q) := by
  subst hw hw'
  iintro ⟨Ho, Hl⟩ Hk
  iapply (wp_store_slot 𝒱₀ (c : Thread nD τ) none Set.univ soM h ho) $$ Ho; iintro Ho
  iapply (wp_load_slotAny 𝒱₀ (c : Thread nD τ) none Set.univ slM h ho') $$ Hl; iintro Hl
  iapply (wp_store_slot 𝒱₀ (c : Thread nD τ) none Set.univ slM h ho') $$ Hl; iintro Hl
  iapply Hk
  unfold headRes
  isplitl [Ho] <;> iassumption

/-- The debts of heads, the first of them sent. -/
theorem headDebts_cons {h : Fin 8} (hh : h ≠ c) (hs : List (Fin 8)) (A : List Debt) :
    headDebts c (h :: hs) ++ A = (cell h (some (1, c)), amtOf 1) :: (cell h (some (3, c)), amtOf 3) :: (headDebts c hs ++ A) := by
  unfold headDebts; rw [List.flatMap_cons, if_neg hh]; rfl
/-- The debts of heads, the first of them the device's own. -/
theorem headDebts_self {h : Fin 8} (hh : h = c) (hs : List (Fin 8)) (A : List Debt) :
    headDebts c (h :: hs) ++ A = headDebts c hs ++ A := by
  unfold headDebts; rw [List.flatMap_cons, if_pos hh]; rfl

/-- A head is sent to its device: the two copies. -/
theorem st_headSend (h : Fin 8) (hh : h ≠ c) (hs : List (Fin 8)) (A : List Debt) (n n' : Dev nD) (hn : n = h) (hn' : n' = h)
    {o1 o2 o3 o4 : Fin 3 → ℕ} (ho1 : o1 = ![h.val, 0, 0]) (ho2 : o2 = ![c.val, 0, 0]) (ho3 : o3 = ![h.val, 0, 0]) (ho4 : o4 = ![c.val, 0, 0])
    (s0 s1 s2 s3 : DmaSem sig) (hs0 : s0 = dsem 0 h) (hs1 : s1 = dsem 1 c) (hs2 : s2 = dsem 2 h) (hs3 : s3 = dsem 3 c)
    {i1 : ∀ i, o1 i + S1x128x512.size i ≤ S8x128x512.size i} {i2 : ∀ i, o2 i + S1x128x512.size i ≤ S8x128x512.size i}
    {i3 : ∀ i, o3 i + S1x1x512.size i ≤ S8x1x512.size i} {i4 : ∀ i, o4 i + S1x1x512.size i ≤ S8x1x512.size i}
    {t1 : ∀ i, (Rect.unit (s := S8x128x512) o1 S1x128x512.size i1).stride i = 1} {t2 : ∀ i, (Rect.unit (s := S8x128x512) o2 S1x128x512.size i2).stride i = 1}
    {t3 : ∀ i, (Rect.unit (s := S8x1x512) o3 S1x1x512.size i3).stride i = 1} {t4 : ∀ i, (Rect.unit (s := S8x1x512) o4 S1x1x512.size i4).stride i = 1}
    {q1 q2 : S1x128x512.Squeezes S128x512} {q3 q4 : S1x1x512.Squeezes S1x512}
    {hc : ((roM.slice (Rect.unit (s := S8x128x512) o2 S1x128x512.size i2) t2).squeeze S128x512 q2 : Memref sig (Dev.tc n : Thread nD τ).2.kind .vmem S128x512 .bf16).view.ref.isScScratch = false}
    {hc' : ((rlM.slice (Rect.unit (s := S8x1x512) o4 S1x1x512.size i4) t4).squeeze S1x512 q4 : Memref sig (Dev.tc n' : Thread nD τ).2.kind .vmem S1x512 .f32).view.ref.isScScratch = false}
    {w1 : ((soM.slice (Rect.unit (s := S8x128x512) o1 S1x128x512.size i1) t1).squeeze S128x512 q1).view.WordExact}
    {w2 : ((roM.slice (Rect.unit (s := S8x128x512) o2 S1x128x512.size i2) t2).squeeze S128x512 q2).view.WordExact}
    {w3 : ((slM.slice (Rect.unit (s := S8x1x512) o3 S1x1x512.size i3) t3).squeeze S1x512 q3).view.WordExact}
    {w4 : ((rlM.slice (Rect.unit (s := S8x1x512) o4 S1x1x512.size i4) t4).squeeze S1x512 q4).view.WordExact}
    {d1 : DmaTarget.Typed .vmem (.dma s1) (.remote (Dev.tc n : Thread nD τ) ((roM.slice (Rect.unit (s := S8x128x512) o2 S1x128x512.size i2) t2).squeeze S128x512 q2) (.dma s0) hc)}
    {d2 : DmaTarget.Typed .vmem (.dma s3) (.remote (Dev.tc n' : Thread nD τ) ((rlM.slice (Rect.unit (s := S8x1x512) o4 S1x1x512.size i4) t4).squeeze S1x512 q4) (.dma s2) hc')}
    {k : Prog (TpuEff nD τ sig (Elt F) Λ₀ .tc) α} :
    iprop(records m ρ K ∗ ow c (headDebts c (h :: hs) ++ A) ∗ headIn c h ∗ headRes m ρ c h)
      ⊢ iprop(((ow c (headDebts c hs ++ A) ∗ headCred c h) -∗ wp frame (wpE (defs₀ (F := F)) 𝒱₀ (c : Thread nD τ) none) Set.univ k Q)
        -∗ wp frame (wpE (defs₀ (F := F)) 𝒱₀ (c : Thread nD τ) none) Set.univ
            (.op (.enqueueDma ((soM.slice (Rect.unit (s := S8x128x512) o1 S1x128x512.size i1) t1).squeeze S128x512 q1)
              (.remote (Dev.tc n : Thread nD τ) ((roM.slice (Rect.unit (s := S8x128x512) o2 S1x128x512.size i2) t2).squeeze S128x512 q2) (.dma s0) hc) (.dma s1) w1 w2 d1) fun _ =>
             .op (.enqueueDma ((slM.slice (Rect.unit (s := S8x1x512) o3 S1x1x512.size i3) t3).squeeze S1x512 q3)
              (.remote (Dev.tc n' : Thread nD τ) ((rlM.slice (Rect.unit (s := S8x1x512) o4 S1x1x512.size i4) t4).squeeze S1x512 q4) (.dma s2) hc') (.dma s3) w3 w4 d2) fun _ => k) Q) := by
  rw [headDebts_cons c hh]
  unfold headIn headRes headCred
  iintro ⟨#HR, HO, ⟨Ht1, Ht2, Hd1, Ht3, Ht4, Hd2⟩, Hs1, Hs2⟩ Hk
  iapply (st_send m ρ K c 0 1 rfl n h hn hh _ soM roM h c ho1 ho2 s0 s1 hs0 hs1 (q := fullShare) (X := Oc m ρ c h) (.rfl) (.rfl) rfl) $$ [HO Ht1 Ht2 Hd1 Hs1]
  · iframe; iexact HR
  iintro ⟨Hc1, HO⟩
  iapply (st_send m ρ K c 2 3 rfl n' h hn' hh _ slM rlM h c ho3 ho4 s2 s3 hs2 hs3 (q := fullShare) (X := Lc m ρ c h) (.rfl) (.rfl) rfl) $$ [HO Ht3 Ht4 Hd2 Hs2]
  · iframe; iexact HR
  iintro ⟨Hc2, HO⟩
  iapply Hk
  iframe

/-- What a device does unless the head is its own: what comes after is common. -/
theorem st_head (h : Fin 8) {P : Prop} [Decidable P] (hP : P ↔ h ≠ c) (hs : List (Fin 8)) (A : List Debt)
    {T : P → Prog (TpuEff nD τ sig (Elt F) Λ₀ .tc) α} {R : Prog (TpuEff nD τ sig (Elt F) Λ₀ .tc) α}
    (hT : ∀ p : P, h ≠ c → iprop(records m ρ K ∗ ow c (headDebts c (h :: hs) ++ A) ∗ headIn c h ∗ headRes m ρ c h)
      ⊢ iprop(((ow c (headDebts c hs ++ A) ∗ headCred c h) -∗ wp frame (wpE (defs₀ (F := F)) 𝒱₀ (c : Thread nD τ) none) Set.univ R Q)
        -∗ wp frame (wpE (defs₀ (F := F)) 𝒱₀ (c : Thread nD τ) none) Set.univ (T p) Q)) :
    iprop(records m ρ K ∗ ow c (headDebts c (h :: hs) ++ A) ∗ hIn c h ∗ headRes m ρ c h)
      ⊢ iprop(((ow c (headDebts c hs ++ A) ∗ hMid m ρ c h) -∗ wp frame (wpE (defs₀ (F := F)) 𝒱₀ (c : Thread nD τ) none) Set.univ R Q)
        -∗ wp frame (wpE (defs₀ (F := F)) 𝒱₀ (c : Thread nD τ) none) Set.univ (dite P T fun _ => R) Q) := by
  unfold hIn hMid
  by_cases hh : h ≠ c
  · rw [dif_pos (hP.mpr hh), if_pos hh, if_pos hh]
    exact hT _ hh
  · rw [dif_neg (fun p => hh (hP.mp p)), if_neg hh, if_neg hh, headDebts_self c (not_not.mp hh)]
    iintro ⟨-, HO, -, Hr⟩ Hk
    iapply Hk
    isplitl [HO] <;> iassumption

/-- The waits for the two sends of a head. -/
theorem st_headWait (h : Fin 8) (hh : h ≠ c) (s0 s2 : DmaSem sig) (hs0 : s0 = dsem 0 h) (hs2 : s2 = dsem 2 h)
    {sp sp' : Space} {s s' : Shape} {e e' : EltTy} {src : Memref sig .tc sp' s' e'} {κ' : Kind} {dst : Memref sig κ' sp s e} (hd : dst.view.dmaCredit = amtOf 0)
    {hsrc : src.view.WordExact} {hdst : dst.view.WordExact}
    {sp₂ sp₂' : Space} {s₂ s₂' : Shape} {e₂ e₂' : EltTy} {src₂ : Memref sig .tc sp₂' s₂' e₂'} {κ₂' : Kind} {dst₂ : Memref sig κ₂' sp₂ s₂ e₂} (hd₂ : dst₂.view.dmaCredit = amtOf 2)
    {hsrc₂ : src₂.view.WordExact} {hdst₂ : dst₂.view.WordExact}
    {k : Prog (TpuEff nD τ sig (Elt F) Λ₀ .tc) α} :
    iprop(records m ρ K ∗ levAts L lv ∗ ow c [] ∗ headCred c h ∗ headPos c 0 h)
      ⊢ iprop(((ow c [] ∗ headRes m ρ c h ∗ headPos c 1 h) -∗ wp frame (wpE (defs₀ (F := F)) 𝒱₀ (c : Thread nD τ) none) Set.univ k Q)
        -∗ wp frame (wpE (defs₀ (F := F)) 𝒱₀ (c : Thread nD τ) none) Set.univ
          (.op (.waitDma2 s0 src dst hsrc hdst) fun _ => .op (.waitDma2 s2 src₂ dst₂ hsrc₂ hdst₂) fun _ => k) Q) := by
  unfold headCred headPos headRes
  iintro ⟨#HR, #Hlev, HO, ⟨Hc1, Hc2⟩, Ha1, Ha2⟩ Hk
  iapply (st_wait m ρ K c 0 h hh [] (fun _ he => by cases he) s0 hs0 hd) $$ [HO Hc1 Ha1]
  · iframe; isplitr <;> iassumption
  iintro ⟨HO, Ha1, Hp1⟩
  iapply (st_wait m ρ K c 2 h hh [] (fun _ he => by cases he) s2 hs2 hd₂) $$ [HO Hc2 Ha2]
  · iframe; isplitr <;> iassumption
  iintro ⟨HO, Ha2, Hp2⟩
  iapply Hk
  iframe
  unfold dmaPay
  isplitl [Hp1] <;> iassumption

/-- Waiting for the sends of a head that may be the device's own: its results are whole again. -/
theorem st_headEnd (h : Fin 8) {P : Prop} [Decidable P] (hP : P ↔ h ≠ c)
    {T : P → Prog (TpuEff nD τ sig (Elt F) Λ₀ .tc) α} {R : Prog (TpuEff nD τ sig (Elt F) Λ₀ .tc) α}
    (hT : ∀ p : P, h ≠ c → iprop(records m ρ K ∗ levAts L lv ∗ ow c [] ∗ headCred c h ∗ headPos c 0 h)
      ⊢ iprop(((ow c [] ∗ headRes m ρ c h ∗ headPos c 1 h) -∗ wp frame (wpE (defs₀ (F := F)) 𝒱₀ (c : Thread nD τ) none) Set.univ R Q)
        -∗ wp frame (wpE (defs₀ (F := F)) 𝒱₀ (c : Thread nD τ) none) Set.univ (T p) Q)) :
    iprop(records m ρ K ∗ levAts L lv ∗ ow c [] ∗ hMid m ρ c h ∗ hPos c 0 h)
      ⊢ iprop(((ow c [] ∗ headRes m ρ c h ∗ hPos c 1 h) -∗ wp frame (wpE (defs₀ (F := F)) 𝒱₀ (c : Thread nD τ) none) Set.univ R Q)
        -∗ wp frame (wpE (defs₀ (F := F)) 𝒱₀ (c : Thread nD τ) none) Set.univ (dite P T fun _ => R) Q) := by
  unfold hMid hPos
  by_cases hh : h ≠ c
  · rw [dif_pos (hP.mpr hh), if_pos hh, if_pos hh, if_pos hh]
    exact hT _ hh
  · rw [dif_neg (fun p => hh (hP.mp p)), if_neg hh, if_neg hh, if_neg hh]
    iintro ⟨-, -, HO, Hr, -⟩ Hk
    iapply Hk
    iframe

end Heads

end Cert.Attn
end
-- ==== Proof.Windows1.lean ====
/-
# The windows of the body, to the point where the heads are computed

Each of the body's windows takes a device from one state of the exchange to the next.  This module has the windows of the
first half: the barrier, and the eight heads computed and sent.
-/
module

public import proofs.«01_k».proof.Proof.Heads

@[expose] public section

noncomputable section

namespace Cert.Attn

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- A window of the body at the kernel's own blocks and semaphores. -/
abbrev onBlocks {β : Type 1} (f : (a0 : Memref sig .tc .vmem S512x1024 .bf16) → a0.IsWhole → (a1 : Memref sig .tc .vmem S1024x1024 .bf16) → a1.IsWhole
    → (a2 : Memref sig .tc .vmem S1024x1024 .bf16) → a2.IsWhole → (a3 : Memref sig .tc .vmem S2048x256 .bf16) → a3.IsWhole
    → (a4 : Memref sig .tc .vmem S2048x256 .bf16) → a4.IsWhole → (a5 : Memref sig .tc .vmem S512x1024 .f32) → a5.IsWhole
    → (a6 : Memref sig .tc .vmem S8x128x512 .bf16) → a6.IsWhole → (a7 : Memref sig .tc .vmem S8x1x512 .f32) → a7.IsWhole
    → (a8 : Memref sig .tc .vmem S8x128x512 .bf16) → a8.IsWhole → (a9 : Memref sig .tc .vmem S8x1x512 .f32) → a9.IsWhole
    → (a10 : Memref sig .tc .vmem S8x128x512 .bf16) → a10.IsWhole
    → DmaSems sig S8 → DmaSems sig S8 → DmaSems sig S8 → DmaSems sig S8 → DmaSems sig S8 → DmaSems sig S8 → β) : β :=
  f xM (Memref.isWhole_whole _) wqM (Memref.isWhole_whole _) woM (Memref.isWhole_whole _) kM (Memref.isWhole_whole _) vM (Memref.isWhole_whole _)
    outM (Memref.isWhole_whole _) soM (Memref.isWhole_whole _) slM (Memref.isWhole_whole _) roM (Memref.isWhole_whole _) rlM (Memref.isWhole_whole _)
    agM (Memref.isWhole_whole _) cc0_scratch5 cc0_scratch6 cc0_scratch7 cc0_scratch8 cc0_scratch9 cc0_scratch10

section Windows

variable (K : Dev nD × KI → ℕ) (c : Dev nD)

/-- A staging buffer of device `c` holds `X`. -/
abbrev holds (b : Ref sig .tc) (X : b.ty.Contents (Elt F)) : sProp 𝕄 := (((c : Dev nD) : Thread nD τ).loc b) ↦{fullShare} X

/-- The debts of the heads and the quotients lie above the barrier's level. -/
theorem head_lv (hs : List (Fin 8)) (ds : List ℕ) : ∀ e ∈ headDebts c hs ++ agDebts c ds, e.1.1.2 = .tc ∧ 1 < lvk (kind e.1.2) := by
  intro e he
  rcases List.mem_append.mp he with he | he
  · have := headDebts_lv c _ e he; exact ⟨this.1, by omega⟩
  · have := agDebts_lv c _ e he; exact ⟨this.1, by omega⟩

/-- Two zero offsets. -/
theorem hz : (![0, 0] : Fin 2 → Nat) = fun _ => 0 := funext fun a => by fin_cases a <;> rfl

/-! A load of a whole staging buffer reads it. -/

/-- Loads of the whole inputs read their contents: the kernel's input, -/
theorem read_x (f : (cc0_stg0_0 : Ref sig .tc).ty.Contents (Elt F)) :
    (xM : Memref sig .tc .vmem S512x1024 .bf16).view.readAt (Elt F) (Rect.unit (s := S512x1024) ![0, 0] S512x1024.size inb_S512x1024_S512x1024_0_0).toLoadRect f = f :=
  Memref.readAt_unit_zero (Elt F) cc0_stg0_0 hz _ f
/-- the weight of the queries, -/
theorem read_wq (f : (cc0_stg1_0 : Ref sig .tc).ty.Contents (Elt F)) :
    (wqM : Memref sig .tc .vmem S1024x1024 .bf16).view.readAt (Elt F) (Rect.unit (s := S1024x1024) ![0, 0] S1024x1024.size inb_S1024x1024_S1024x1024_0_0).toLoadRect f = f :=
  Memref.readAt_unit_zero (Elt F) cc0_stg1_0 hz _ f
/-- the keys, -/
theorem read_k (f : (cc0_stg3_0 : Ref sig .tc).ty.Contents (Elt F)) :
    (kM : Memref sig .tc .vmem S2048x256 .bf16).view.readAt (Elt F) (Rect.unit (s := S2048x256) ![0, 0] S2048x256.size inb_S2048x256_S2048x256_0_0).toLoadRect f = f :=
  Memref.readAt_unit_zero (Elt F) cc0_stg3_0 hz _ f
/-- and the values. -/
theorem read_v (f : (cc0_stg4_0 : Ref sig .tc).ty.Contents (Elt F)) :
    (vM : Memref sig .tc .vmem S2048x256 .bf16).view.readAt (Elt F) (Rect.unit (s := S2048x256) ![0, 0] S2048x256.size inb_S2048x256_S2048x256_0_0).toLoadRect f = f :=
  Memref.readAt_unit_zero (Elt F) cc0_stg4_0 hz _ f

/-- One signal: to the peer at distance `d`. -/
theorem st_sig (d : ℕ) (hd : d % 8 ≠ 0) (n : Dev nD) (hn : n = up c d) (ds : List ℕ) (D : List Debt)
    {α : Type} {Q : α → sProp (MT nD τ sig Unit (Elt F) ℕ UU ℕ)} {k : PUnit → Prog (TpuEff nD τ sig (Elt F) Λ₀ .tc) α} :
    iprop(records m ρ K ∗ ow c (barDebts c (d :: ds) ++ D) ∗ sig1 c (up c d))
      ⊢ iprop((ow c (barDebts c ds ++ D) -∗ wp frame (wpE (defs₀ (F := F)) 𝒱₀ (c : Thread nD τ) none) Set.univ (k ⟨⟩) Q)
        -∗ wp frame (wpE (defs₀ (F := F)) 𝒱₀ (c : Thread nD τ) none) Set.univ
            (.op (.semSignal (Dev.tc n : Thread nD τ) barS (1#32).toInt) k) Q) :=
  st_signal m ρ K c n (up c d) hn (up_ne c d hd) (barDebts c ds ++ D)

/-- The first five signals. -/
theorem w1 (D : List Debt) {Q : _ → sProp (MT nD τ sig Unit (Elt F) ℕ UU ℕ)} :
    iprop(records m ρ K ∗ ow c (barDebts c [1, 2, 3, 4, 5, 6, 7] ++ D)
        ∗ sig1 c (up c 1) ∗ sig1 c (up c 2) ∗ sig1 c (up c 3) ∗ sig1 c (up c 4) ∗ sig1 c (up c 5))
      ⊢ iprop((ow c (barDebts c [6, 7] ++ D) -∗ iprop(∀ v2 v24, Q ⟨c, v2, SemArray.scalar (sig.barrier 0 rfl), v24, 8#32⟩))
        -∗ wp frame (wpE (defs₀ (F := F)) 𝒱₀ (c : Thread nD τ) none) Set.univ (onBlocks (k0_part1 (F := F))) Q) := by
  simp only [onBlocks, k0_part1_eq_skeleton]; unfold k0_part1_skel
  simp only [semSignalWord, semWaitWord, Prog.lift, Prog.bind_op, Prog.bind_ret, Prog.pure_eq_ret, wp_deviceId]
  iintro ⟨#HR, HO, H1, H2, H3, H4, H5⟩ Hk
  iapply (st_sig m ρ K c 1 (by decide) _ (Fin.ext (k0_dev1_eq c)) [2, 3, 4, 5, 6, 7] D) $$ [HO H1]
  · iframe; iexact HR
  iintro HO
  iapply (st_sig m ρ K c 2 (by decide) _ (Fin.ext (k0_dev2_eq c)) [3, 4, 5, 6, 7] D) $$ [HO H2]
  · iframe; iexact HR
  iintro HO
  iapply (st_sig m ρ K c 3 (by decide) _ (Fin.ext (k0_dev3_eq c)) [4, 5, 6, 7] D) $$ [HO H3]
  · iframe; iexact HR
  iintro HO
  iapply (st_sig m ρ K c 4 (by decide) _ (Fin.ext (k0_dev4_eq c)) [5, 6, 7] D) $$ [HO H4]
  · iframe; iexact HR
  iintro HO
  iapply (st_sig m ρ K c 5 (by decide) _ (Fin.ext (k0_dev5_eq c)) [6, 7] D) $$ [HO H5]
  · iframe; iexact HR
  iintro HO
  rw [wp_ret]; imodintro
  iapply Hk $$ HO %_ %_

/-- The last two signals, the wait at the barrier, and the loads of the inputs. -/
theorem w2 (hs : List (Fin 8)) (ds : List ℕ) (v2 v24 c8 : BitVec 32) {Q : _ → sProp (MT nD τ sig Unit (Elt F) ℕ UU ℕ)} :
    iprop(records m ρ K ∗ levAts L lv ∗ ow c (barDebts c [6, 7] ++ (headDebts c hs ++ agDebts c ds)) ∗ sig1 c (up c 6) ∗ sig1 c (up c 7)
        ∗ cred (tallyAt (cell c none) () 7) ∗ atPos ER (cell c none) 0 ∅ 0
        ∗ holds c cc0_stg0_0 (xs m ρ c) ∗ holds c cc0_stg1_0 (wqs m ρ c) ∗ holds c cc0_stg3_0 (ks m ρ c) ∗ holds c cc0_stg4_0 (vs m ρ c)
        ∗ slotAny (c : Thread nD τ) soM 0)
      ⊢ iprop(((ow c (headDebts c hs ++ agDebts c ds) ∗ atPos ER (cell c none) 1 ∅ 0 ∗ (bigSep (Finset.univ.erase c) fun d => barPay d c)
          ∗ holds c cc0_stg0_0 (xs m ρ c) ∗ holds c cc0_stg1_0 (wqs m ρ c) ∗ holds c cc0_stg3_0 (ks m ρ c) ∗ holds c cc0_stg4_0 (vs m ρ c)
          ∗ slotAny (c : Thread nD τ) soM 0)
          -∗ Q ⟨qv m ρ c, kv m ρ c, vv m ρ c, k0_pay5 (xs m ρ c) (wqs m ρ c) (ks m ρ c), k0_pay6 (xs m ρ c) (wqs m ρ c) (ks m ρ c) (vs m ρ c)⟩)
        -∗ wp frame (wpE (defs₀ (F := F)) 𝒱₀ (c : Thread nD τ) none) Set.univ
            (onBlocks (k0_part2 (F := F)) c v2 (SemArray.scalar (sig.barrier 0 rfl)) v24 c8) Q) := by
  simp only [onBlocks, k0_part2_eq_skeleton]; unfold k0_part2_skel
  simp only [semSignalWord, semWaitWord, Prog.lift, Prog.bind_op, Prog.bind_ret, Prog.pure_eq_ret]
  unfold qv kv vv
  iintro ⟨#HR, #Hlev, HO, H6, H7, Hc, Ha, Hx, Hq, Hkk, Hv, Hs⟩ Hk
  iapply (st_sig m ρ K c 6 (by decide) _ (Fin.ext (k0_dev6_eq c)) [7] (headDebts c hs ++ agDebts c ds)) $$ [HO H6]
  · iframe; iexact HR
  iintro HO
  iapply (st_sig m ρ K c 7 (by decide) _ (Fin.ext (k0_dev7_eq c)) [] (headDebts c hs ++ agDebts c ds)) $$ [HO H7]
  · iframe; iexact HR
  iintro HO
  ihave HO := (show ow c (barDebts c [] ++ (headDebts c hs ++ agDebts c ds)) ⊢ (ow c (headDebts c hs ++ agDebts c ds) : sProp 𝕄) from .rfl) $$ HO
  iapply (st_barwait m ρ K c (headDebts c hs ++ agDebts c ds) (head_lv c hs ds)) $$ [HO Hc Ha]
  · iframe; isplitr <;> iassumption
  iintro ⟨HO, Ha, Hb⟩
  iapply (wp_load 𝒱₀ (c : Thread nD τ) none Set.univ (m := xM) (Finset.subset_univ _)) $$ Hx; iintro Hx
  iapply (wp_load 𝒱₀ (c : Thread nD τ) none Set.univ (m := wqM) (Finset.subset_univ _)) $$ Hq; iintro Hq
  iapply (wp_load 𝒱₀ (c : Thread nD τ) none Set.univ (m := kM) (Finset.subset_univ _)) $$ Hkk; iintro Hkk
  iapply (wp_load 𝒱₀ (c : Thread nD τ) none Set.univ (m := vM) (Finset.subset_univ _)) $$ Hv; iintro Hv
  rw [read_x, read_wq, read_k, read_v]
  iapply (wp_load_slotAny 𝒱₀ (c : Thread nD τ) none Set.univ soM 0 rfl) $$ Hs; iintro Hs
  rw [wp_ret]; imodintro
  iapply Hk
  iframe

/-- Head 0 is stored and sent; head 1 is computed and sent. -/
theorem w3 (A : List Debt) (v2 : BitVec 32) {Q : _ → sProp (MT nD τ sig Unit (Elt F) ℕ UU ℕ)} :
    iprop(records m ρ K ∗ ow c (headDebts c [0, 1, 2, 3, 4, 5, 6, 7] ++ A)
        ∗ (slotAny (c : Thread nD τ) soM 0 ∗ slotAny (c : Thread nD τ) slM 0 ∗ hIn c 0)
        ∗ (slotAny (c : Thread nD τ) soM 1 ∗ slotAny (c : Thread nD τ) slM 1 ∗ hIn c 1))
      ⊢ iprop(((ow c (headDebts c [2, 3, 4, 5, 6, 7] ++ A) ∗ hMid m ρ c 0 ∗ hMid m ρ c 1)
          -∗ Q ⟨k0_pay13 (qv m ρ c) (kv m ρ c), k0_pay14 (qv m ρ c) (kv m ρ c) (vv m ρ c)⟩)
        -∗ wp frame (wpE (defs₀ (F := F)) 𝒱₀ (c : Thread nD τ) none) Set.univ
            (onBlocks (k0_part3 (F := F)) c v2 (qv m ρ c) (kv m ρ c) (vv m ρ c) (k0_pay5 (xs m ρ c) (wqs m ρ c) (ks m ρ c))
              (k0_pay6 (xs m ρ c) (wqs m ρ c) (ks m ρ c) (vs m ρ c))) Q) := by
  simp only [onBlocks, k0_part3_eq_skeleton]; unfold k0_part3_skel
  simp only [Prog.lift, Prog.bind_op, Prog.bind_ret, Prog.pure_eq_ret]
  iintro ⟨#HR, HO, ⟨Hs0, Hl0, Hi0⟩, Hs1, Hl1, Hi1⟩ Hk
  iapply (st_compute m ρ c 0 rfl rfl rfl rfl) $$ [Hs0 Hl0]
  · iframe
  iintro Hr
  iapply (st_head m ρ K c 0 (by revert c; decide) [1, 2, 3, 4, 5, 6, 7] A (fun hk hh =>
    st_headSend m ρ K c 0 hh [1, 2, 3, 4, 5, 6, 7] A _ _ (Fin.ext k0_dev8_eq) (Fin.ext k0_dev9_eq) rfl (k0_off2_eq c) rfl (k0_off3_eq c) _ _ _ _
      ((sem_at cc0_scratch5 0 rfl _).trans (sem5 0)) ((sem_at cc0_scratch6 c (k0_off1_eq c) _).trans (sem6 c))
      ((sem_at cc0_scratch7 0 rfl _).trans (sem7 0)) ((sem_at cc0_scratch8 c (k0_off1_eq c) _).trans (sem8 c)))) $$ [HO Hi0 Hr]
  · iframe; iexact HR
  iintro ⟨HO, Hm0⟩
  iapply (wp_load_slotAny 𝒱₀ (c : Thread nD τ) none Set.univ soM 1 rfl) $$ Hs1; iintro Hs1
  iapply (st_compute m ρ c 1 rfl rfl rfl rfl) $$ [Hs1 Hl1]
  · iframe
  iintro Hr
  iapply (st_head m ρ K c 1 (by revert c; decide) [2, 3, 4, 5, 6, 7] A (fun hk hh =>
    st_headSend m ρ K c 1 hh [2, 3, 4, 5, 6, 7] A _ _ (Fin.ext k0_dev10_eq) (Fin.ext k0_dev11_eq) rfl (k0_off5_eq c) rfl (k0_off6_eq c) _ _ _ _
      ((sem_at cc0_scratch5 1 rfl _).trans (sem5 1)) ((sem_at cc0_scratch6 c (k0_off4_eq c) _).trans (sem6 c))
      ((sem_at cc0_scratch7 1 rfl _).trans (sem7 1)) ((sem_at cc0_scratch8 c (k0_off4_eq c) _).trans (sem8 c)))) $$ [HO Hi1 Hr]
  · iframe; iexact HR
  iintro ⟨HO, Hm1⟩
  rw [wp_ret]; imodintro
  iapply Hk
  iframe

/-- Heads 2 and 3 are computed and sent. -/
theorem w4 (A : List Debt) (v2 : BitVec 32) {Q : _ → sProp (MT nD τ sig Unit (Elt F) ℕ UU ℕ)} :
    iprop(records m ρ K ∗ ow c (headDebts c [2, 3, 4, 5, 6, 7] ++ A)
        ∗ (slotAny (c : Thread nD τ) soM 2 ∗ slotAny (c : Thread nD τ) slM 2 ∗ hIn c 2)
        ∗ (slotAny (c : Thread nD τ) soM 3 ∗ slotAny (c : Thread nD τ) slM 3 ∗ hIn c 3))
      ⊢ iprop(((ow c (headDebts c [4, 5, 6, 7] ++ A) ∗ hMid m ρ c 2 ∗ hMid m ρ c 3)
          -∗ Q ⟨k0_pay20 (vv m ρ c), k0_pay21 (qv m ρ c) (kv m ρ c)⟩)
        -∗ wp frame (wpE (defs₀ (F := F)) 𝒱₀ (c : Thread nD τ) none) Set.univ
            (onBlocks (k0_part4 (F := F)) c v2 (qv m ρ c) (kv m ρ c) (vv m ρ c)
              (k0_pay13 (qv m ρ c) (kv m ρ c)) (k0_pay14 (qv m ρ c) (kv m ρ c) (vv m ρ c))) Q) := by
  simp only [onBlocks, k0_part4_eq_skeleton]; unfold k0_part4_skel
  simp only [Prog.lift, Prog.bind_op, Prog.bind_ret, Prog.pure_eq_ret]
  iintro ⟨#HR, HO, ⟨Hs2, Hl2, Hi2⟩, Hs3, Hl3, Hi3⟩ Hk
  iapply (wp_load_slotAny 𝒱₀ (c : Thread nD τ) none Set.univ soM 2 rfl) $$ Hs2; iintro Hs2
  iapply (st_compute m ρ c 2 rfl rfl rfl rfl) $$ [Hs2 Hl2]
  · iframe
  iintro Hr
  iapply (st_head m ρ K c 2 (by revert c; decide) [3, 4, 5, 6, 7] A (fun hk hh =>
    st_headSend m ρ K c 2 hh [3, 4, 5, 6, 7] A _ _ (Fin.ext k0_dev12_eq) (Fin.ext k0_dev13_eq) rfl (k0_off8_eq c) rfl (k0_off9_eq c) _ _ _ _
      ((sem_at cc0_scratch5 2 rfl _).trans (sem5 2)) ((sem_at cc0_scratch6 c (k0_off7_eq c) _).trans (sem6 c))
      ((sem_at cc0_scratch7 2 rfl _).trans (sem7 2)) ((sem_at cc0_scratch8 c (k0_off7_eq c) _).trans (sem8 c)))) $$ [HO Hi2 Hr]
  · iframe; iexact HR
  iintro ⟨HO, Hm2⟩
  iapply (wp_load_slotAny 𝒱₀ (c : Thread nD τ) none Set.univ soM 3 rfl) $$ Hs3; iintro Hs3
  iapply (st_compute m ρ c 3 rfl rfl rfl rfl) $$ [Hs3 Hl3]
  · iframe
  iintro Hr
  iapply (st_head m ρ K c 3 (by revert c; decide) [4, 5, 6, 7] A (fun hk hh =>
    st_headSend m ρ K c 3 hh [4, 5, 6, 7] A _ _ (Fin.ext k0_dev14_eq) (Fin.ext k0_dev15_eq) rfl (k0_off11_eq c) rfl (k0_off12_eq c) _ _ _ _
      ((sem_at cc0_scratch5 3 rfl _).trans (sem5 3)) ((sem_at cc0_scratch6 c (k0_off10_eq c) _).trans (sem6 c))
      ((sem_at cc0_scratch7 3 rfl _).trans (sem7 3)) ((sem_at cc0_scratch8 c (k0_off10_eq c) _).trans (sem8 c)))) $$ [HO Hi3 Hr]
  · iframe; iexact HR
  iintro ⟨HO, Hm3⟩
  rw [wp_ret]; imodintro
  iapply Hk
  iframe

/-- Heads 4 and 5 are computed and sent. -/
theorem w5 (A : List Debt) (v2 : BitVec 32) {Q : _ → sProp (MT nD τ sig Unit (Elt F) ℕ UU ℕ)} :
    iprop(records m ρ K ∗ ow c (headDebts c [4, 5, 6, 7] ++ A)
        ∗ (slotAny (c : Thread nD τ) soM 4 ∗ slotAny (c : Thread nD τ) slM 4 ∗ hIn c 4)
        ∗ (slotAny (c : Thread nD τ) soM 5 ∗ slotAny (c : Thread nD τ) slM 5 ∗ hIn c 5))
      ⊢ iprop(((ow c (headDebts c [6, 7] ++ A) ∗ hMid m ρ c 4 ∗ hMid m ρ c 5)
          -∗ Q ⟨⟩)
        -∗ wp frame (wpE (defs₀ (F := F)) 𝒱₀ (c : Thread nD τ) none) Set.univ
            (onBlocks (k0_part5 (F := F)) c v2 (qv m ρ c) (kv m ρ c) (vv m ρ c) (k0_pay20 (vv m ρ c)) (k0_pay21 (qv m ρ c) (kv m ρ c))) Q) := by
  simp only [onBlocks, k0_part5_eq_skeleton]; unfold k0_part5_skel
  simp only [Prog.lift, Prog.bind_op, Prog.bind_ret, Prog.pure_eq_ret]
  iintro ⟨#HR, HO, ⟨Hs4, Hl4, Hi4⟩, Hs5, Hl5, Hi5⟩ Hk
  iapply (wp_load_slotAny 𝒱₀ (c : Thread nD τ) none Set.univ soM 4 rfl) $$ Hs4; iintro Hs4
  iapply (st_compute m ρ c 4 rfl rfl rfl rfl) $$ [Hs4 Hl4]
  · iframe
  iintro Hr
  iapply (st_head m ρ K c 4 (by revert c; decide) [5, 6, 7] A (fun hk hh =>
    st_headSend m ρ K c 4 hh [5, 6, 7] A _ _ (Fin.ext k0_dev16_eq) (Fin.ext k0_dev17_eq) rfl (k0_off14_eq c) rfl (k0_off15_eq c) _ _ _ _
      ((sem_at cc0_scratch5 4 rfl _).trans (sem5 4)) ((sem_at cc0_scratch6 c (k0_off13_eq c) _).trans (sem6 c))
      ((sem_at cc0_scratch7 4 rfl _).trans (sem7 4)) ((sem_at cc0_scratch8 c (k0_off13_eq c) _).trans (sem8 c)))) $$ [HO Hi4 Hr]
  · iframe; iexact HR
  iintro ⟨HO, Hm4⟩
  iapply (wp_load_slotAny 𝒱₀ (c : Thread nD τ) none Set.univ soM 5 rfl) $$ Hs5; iintro Hs5
  iapply (st_compute m ρ c 5 rfl rfl rfl rfl) $$ [Hs5 Hl5]
  · iframe
  iintro Hr
  iapply (st_head m ρ K c 5 (by revert c; decide) [6, 7] A (fun hk hh =>
    st_headSend m ρ K c 5 hh [6, 7] A _ _ (Fin.ext k0_dev18_eq) (Fin.ext k0_dev19_eq) rfl (k0_off17_eq c) rfl (k0_off18_eq c) _ _ _ _
      ((sem_at cc0_scratch5 5 rfl _).trans (sem5 5)) ((sem_at cc0_scratch6 c (k0_off16_eq c) _).trans (sem6 c))
      ((sem_at cc0_scratch7 5 rfl _).trans (sem7 5)) ((sem_at cc0_scratch8 c (k0_off16_eq c) _).trans (sem8 c)))) $$ [HO Hi5 Hr]
  · iframe; iexact HR
  iintro ⟨HO, Hm5⟩
  rw [wp_ret]; imodintro
  iapply Hk
  iframe

/-- Head 6 is computed and sent; head 7 is computed. -/
theorem w6 (A : List Debt) (v2 : BitVec 32) {Q : _ → sProp (MT nD τ sig Unit (Elt F) ℕ UU ℕ)} :
    iprop(records m ρ K ∗ ow c (headDebts c [6, 7] ++ A)
        ∗ (slotAny (c : Thread nD τ) soM 6 ∗ slotAny (c : Thread nD τ) slM 6 ∗ hIn c 6)
        ∗ (slotAny (c : Thread nD τ) soM 7 ∗ slotAny (c : Thread nD τ) slM 7 ∗ hIn c 7))
      ⊢ iprop(((ow c (headDebts c [7] ++ A) ∗ hMid m ρ c 6 ∗ headRes m ρ c 7 ∗ hIn c 7)
          -∗ Q ⟨⟩)
        -∗ wp frame (wpE (defs₀ (F := F)) 𝒱₀ (c : Thread nD τ) none) Set.univ
            (onBlocks (k0_part6 (F := F)) c v2 (qv m ρ c) (kv m ρ c) (vv m ρ c)) Q) := by
  simp only [onBlocks, k0_part6_eq_skeleton]; unfold k0_part6_skel
  simp only [Prog.lift, Prog.bind_op, Prog.bind_ret, Prog.pure_eq_ret]
  iintro ⟨#HR, HO, ⟨Hs6, Hl6, Hi6⟩, Hs7, Hl7, Hi7⟩ Hk
  iapply (wp_load_slotAny 𝒱₀ (c : Thread nD τ) none Set.univ soM 6 rfl) $$ Hs6; iintro Hs6
  iapply (st_compute m ρ c 6 rfl rfl rfl rfl) $$ [Hs6 Hl6]
  · iframe
  iintro Hr
  iapply (st_head m ρ K c 6 (by revert c; decide) [7] A (fun hk hh =>
    st_headSend m ρ K c 6 hh [7] A _ _ (Fin.ext k0_dev20_eq) (Fin.ext k0_dev21_eq) rfl (k0_off20_eq c) rfl (k0_off21_eq c) _ _ _ _
      ((sem_at cc0_scratch5 6 rfl _).trans (sem5 6)) ((sem_at cc0_scratch6 c (k0_off19_eq c) _).trans (sem6 c))
      ((sem_at cc0_scratch7 6 rfl _).trans (sem7 6)) ((sem_at cc0_scratch8 c (k0_off19_eq c) _).trans (sem8 c)))) $$ [HO Hi6 Hr]
  · iframe; iexact HR
  iintro ⟨HO, Hm6⟩
  iapply (wp_load_slotAny 𝒱₀ (c : Thread nD τ) none Set.univ soM 7 rfl) $$ Hs7; iintro Hs7
  iapply (st_compute m ρ c 7 rfl rfl rfl rfl) $$ [Hs7 Hl7]
  · iframe
  iintro Hr
  rw [wp_ret]; imodintro
  iapply Hk
  iframe

end Windows

end Cert.Attn
end
-- ==== Proof.Windows2.lean ====
/-
# The windows of the body, from where the heads are summed

The windows of the second half: the sums over the devices, the quotient and its sending, the output projection, and the waits
for the sends to complete.
-/
module

public import proofs.«01_k».proof.Proof.Windows1

@[expose] public section

noncomputable section

namespace Cert.Attn

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

section Windows

variable (K : Dev nD × KI → ℕ) (c : Dev nD)

/-- Zero places up the ring is the device itself. -/
theorem up_zero : up c 0 = c := Fin.ext (Nat.mod_eq_of_lt c.isLt)

/-- The debts of the quotients lie above the level of the heads' arrivals. -/
theorem ag_lv (ds : List ℕ) (x : Option (Option (Fin 6 × Fin 8))) (hx : lvk x = 2) :
    ∀ e ∈ agDebts c ds, e.1.1.2 = .tc ∧ lvk x < lvk (kind e.1.2) := by
  intro e he
  have := agDebts_lv c _ e he
  exact ⟨this.1, by omega⟩

/-- A family over the heads, one by one. -/
theorem fin8 (Φ : Fin 8 → sProp (MT nD τ sig Unit (Elt F) ℕ UU ℕ)) :
    bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]
  simp only [bigSepL_cons_cons, bigSepL_singleton]
  rfl
/-- A family over the peers, one by one. -/
theorem ring7 (Φ : Dev nD → sProp (MT nD τ sig Unit (Elt F) ℕ UU ℕ)) :
    bigSep (Finset.univ.erase c) Φ
      = iprop(Φ (up c 1) ∗ Φ (up c 2) ∗ Φ (up c 3) ∗ Φ (up c 4) ∗ Φ (up c 5) ∗ Φ (up c 6) ∗ Φ (up c 7)) := by
  rw [bigSep_eq_bigSepL_of_eq [up c 1, up c 2, up c 3, up c 4, up c 5, up c 6, up c 7] (by revert c; decide) (by revert c; decide)]
  simp only [bigSepL_cons_cons, bigSepL_singleton]
  rfl

/-- A store over the whole staging buffer of the output writes it. -/
theorem write_out (f w : (cc0_stg5_0 : Ref sig .tc).ty.Contents (Elt F)) :
    (outM.access (Rect.unit (s := S512x1024) ![0, 0] S512x1024.size inb_S512x1024_S512x1024_0_0) : View sig .tc _ _ _).write (Elt F) f w Finset.univ = w :=
  Memref.write_access_unit_zero_univ (Elt F) cc0_stg5_0 hz _ f w

/-! A copy of one slot of a stack takes the amount of the stack's cells, whichever the slot. -/

/-- What a copy credits is the amount of its array: sent numerators, -/
theorem cred_so {off : Fin 3 → ℕ} {inb : ∀ i, off i + S1x128x512.size i ≤ S8x128x512.size i}
    {st : ∀ i, (Rect.unit (s := S8x128x512) off S1x128x512.size inb).stride i = 1} {sq : S1x128x512.Squeezes S128x512} :
    ((soM.slice (Rect.unit (s := S8x128x512) off S1x128x512.size inb) st).squeeze S128x512 sq).view.dmaCredit = amtOf 0 := rfl
/-- received numerators, -/
theorem cred_ro {off : Fin 3 → ℕ} {inb : ∀ i, off i + S1x128x512.size i ≤ S8x128x512.size i}
    {st : ∀ i, (Rect.unit (s := S8x128x512) off S1x128x512.size inb).stride i = 1} {sq : S1x128x512.Squeezes S128x512} :
    ((roM.slice (Rect.unit (s := S8x128x512) off S1x128x512.size inb) st).squeeze S128x512 sq).view.dmaCredit = amtOf 1 := rfl
/-- sent denominators, -/
theorem cred_sl {off : Fin 3 → ℕ} {inb : ∀ i, off i + S1x1x512.size i ≤ S8x1x512.size i}
    {st : ∀ i, (Rect.unit (s := S8x1x512) off S1x1x512.size inb).stride i = 1} {sq : S1x1x512.Squeezes S1x512} :
    ((slM.slice (Rect.unit (s := S8x1x512) off S1x1x512.size inb) st).squeeze S1x512 sq).view.dmaCredit = amtOf 2 := rfl
/-- received denominators, -/
theorem cred_rl {off : Fin 3 → ℕ} {inb : ∀ i, off i + S1x1x512.size i ≤ S8x1x512.size i}
    {st : ∀ i, (Rect.unit (s := S8x1x512) off S1x1x512.size inb).stride i = 1} {sq : S1x1x512.Squeezes S1x512} :
    ((rlM.slice (Rect.unit (s := S8x1x512) off S1x1x512.size inb) st).squeeze S1x512 sq).view.dmaCredit = amtOf 3 := rfl
/-- sent quotients, -/
theorem cred_as {off : Fin 3 → ℕ} {inb : ∀ i, off i + S1x128x512.size i ≤ S8x128x512.size i}
    {st : ∀ i, (Rect.unit (s := S8x128x512) off S1x128x512.size inb).stride i = 1} {sq : S1x128x512.Squeezes S128x512} :
    ((agM.slice (Rect.unit (s := S8x128x512) off S1x128x512.size inb) st).squeeze S128x512 sq).view.dmaCredit = amtOf 4 := rfl
/-- and received quotients. -/
theorem cred_ag {off : Fin 3 → ℕ} {inb : ∀ i, off i + S1x128x512.size i ≤ S8x128x512.size i}
    {st : ∀ i, (Rect.unit (s := S8x128x512) off S1x128x512.size inb).stride i = 1} {sq : S1x128x512.Squeezes S128x512} :
    ((agM.slice (Rect.unit (s := S8x128x512) off S1x128x512.size inb) st).squeeze S128x512 sq).view.dmaCredit = amtOf 5 := rfl

section Steps

variable {α : Type} {Q : α → sProp (MT nD τ sig Unit (Elt F) ℕ UU ℕ)}

/-- A wait at the cell of the peer at distance `d`. -/
theorem st_get (a : Fin 6) (d : ℕ) (hd0 : d % 8 ≠ 0) (l : List Debt) (hl : ∀ e ∈ l, e.1.1.2 = .tc ∧ lvk (some (some (a, up c d))) < lvk (kind e.1.2))
    (sem : DmaSem sig) (hs : sem = dsem a (up c d)) {sp sp' : Space} {s s' : Shape} {e e' : EltTy}
    {src : Memref sig .tc sp' s' e'} {κ' : Kind} {dst : Memref sig κ' sp s e} (hd : dst.view.dmaCredit = amtOf a)
    {hsrc : src.view.WordExact} {hdst : dst.view.WordExact} {k : PUnit → Prog (TpuEff nD τ sig (Elt F) Λ₀ .tc) α} :
    iprop(records m ρ K ∗ levAts L lv ∗ ow c l ∗ waitIn c a (up c d))
      ⊢ iprop(((ow c l ∗ waitOut m ρ c a (up c d)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst hsrc hdst) k) Q) := by
  unfold waitIn waitOut
  exact st_wait m ρ K c a (up c d) (up_ne c d hd0) l hl sem hs hd

/-- A load of the numerators that came from device `p`, -/
theorem st_loadO (p : Fin 8) {off : Fin 3 → ℕ} (ho : off = ![p.val, 0, 0]) {inb : ∀ i, off i + S1x128x512.size i ≤ S8x128x512.size i}
    {hl : roM.view.LoadsAt (Rect.unit (s := S8x128x512) off S1x128x512.size inb).toLoadRect}
    {k : Vec F S1x128x512 .bf16 → Prog (TpuEff nD τ sig (Elt F) Λ₀ .tc) α} :
    (waitOut m ρ c 1 p)
      ⊢ iprop((waitOut m ρ c 1 p -∗ wp frame (wpE (defs₀ (F := F)) 𝒱₀ (c : Thread nD τ) none) Set.univ (k (Oc m ρ p c)) Q)
        -∗ wp frame (wpE (defs₀ (F := F)) 𝒱₀ (c : Thread nD τ) none) Set.univ
            (.op (.load roM (Rect.unit (s := S8x128x512) off S1x128x512.size inb).toLoadRect hl) k) Q) := by
  unfold waitOut dmaPay
  iintro ⟨Ha, H⟩ Hk
  iapply (wp_load_slot 𝒱₀ (c : Thread nD τ) none Set.univ roM p ho fullShare (Oc m ρ p c)) $$ H; iintro H
  iapply Hk
  isplitl [Ha] <;> iassumption

/-- of the denominators, -/
theorem st_loadL (p : Fin 8) {off : Fin 3 → ℕ} (ho : off = ![p.val, 0, 0]) {inb : ∀ i, off i + S1x1x512.size i ≤ S8x1x512.size i}
    {hl : rlM.view.LoadsAt (Rect.unit (s := S8x1x512) off S1x1x512.size inb).toLoadRect}
    {k : Vec F S1x1x512 .f32 → Prog (TpuEff nD τ sig (Elt F) Λ₀ .tc) α} :
    (waitOut m ρ c 3 p)
      ⊢ iprop((waitOut m ρ c 3 p -∗ wp frame (wpE (defs₀ (F := F)) 𝒱₀ (c : Thread nD τ) none) Set.univ (k (Lc m ρ p c)) Q)
        -∗ wp frame (wpE (defs₀ (F := F)) 𝒱₀ (c : Thread nD τ) none) Set.univ
            (.op (.load rlM (Rect.unit (s := S8x1x512) off S1x1x512.size inb).toLoadRect hl) k) Q) := by
  unfold waitOut dmaPay
  iintro ⟨Ha, H⟩ Hk
  iapply (wp_load_slot 𝒱₀ (c : Thread nD τ) none Set.univ rlM p ho fullShare (Lc m ρ p c)) $$ H; iintro H
  iapply Hk
  isplitl [Ha] <;> iassumption

/-- of the quotient, -/
theorem st_loadA (p : Fin 8) {off : Fin 3 → ℕ} (ho : off = ![p.val, 0, 0]) {inb : ∀ i, off i + S1x128x512.size i ≤ S8x128x512.size i}
    {hl : agM.view.LoadsAt (Rect.unit (s := S8x128x512) off S1x128x512.size inb).toLoadRect}
    {k : Vec F S1x128x512 .bf16 → Prog (TpuEff nD τ sig (Elt F) Λ₀ .tc) α} :
    (waitOut m ρ c 5 p)
      ⊢ iprop((waitOut m ρ c 5 p -∗ wp frame (wpE (defs₀ (F := F)) 𝒱₀ (c : Thread nD τ) none) Set.univ (k (Ac m ρ p)) Q)
        -∗ wp frame (wpE (defs₀ (F := F)) 𝒱₀ (c : Thread nD τ) none) Set.univ
            (.op (.load agM (Rect.unit (s := S8x128x512) off S1x128x512.size inb).toLoadRect hl) k) Q) := by
  unfold waitOut dmaPay
  iintro ⟨Ha, H⟩ Hk
  iapply (wp_load_slot 𝒱₀ (c : Thread nD τ) none Set.univ agM p ho fullShare (Ac m ρ p)) $$ H; iintro H
  iapply Hk
  isplitl [Ha] <;> iassumption

/-- of the rows of the output projection that head `h` meets. -/
theorem st_wo (h : Fin 8) {off : Fin 2 → ℕ} (ho : off = ![128 * h.val, 0]) {inb : ∀ i, off i + S128x1024.size i ≤ S1024x1024.size i}
    {hl : woM.view.LoadsAt (Rect.unit (s := S1024x1024) off S128x1024.size inb).toLoadRect}
    {k : Vec F S128x1024 .bf16 → Prog (TpuEff nD τ sig (Elt F) Λ₀ .tc) α} :
    (holds c cc0_stg2_0 (wos m ρ c))
      ⊢ iprop((holds c cc0_stg2_0 (wos m ρ c) -∗ wp frame (wpE (defs₀ (F := F)) 𝒱₀ (c : Thread nD τ) none) Set.univ (k (woRows m ρ c h)) Q)
        -∗ wp frame (wpE (defs₀ (F := F)) 𝒱₀ (c : Thread nD τ) none) Set.univ
            (.op (.load woM (Rect.unit (s := S1024x1024) off S128x1024.size inb).toLoadRect hl) k) Q) := by
  subst ho
  iintro H Hk
  iapply (wp_load 𝒱₀ (c : Thread nD τ) none Set.univ (m := woM) (Finset.subset_univ _)) $$ H; iintro H
  iapply Hk $$ H

/-- The device's own numerators and denominators of its head, which stay where they were computed. -/
theorem st_own {off off' : Fin 3 → ℕ} (ho : off = ![c.val, 0, 0]) (ho' : off' = ![c.val, 0, 0])
    {inb : ∀ i, off i + S1x128x512.size i ≤ S8x128x512.size i} {inb' : ∀ i, off' i + S1x1x512.size i ≤ S8x1x512.size i}
    {hl : soM.view.LoadsAt (Rect.unit (s := S8x128x512) off S1x128x512.size inb).toLoadRect}
    {hl' : slM.view.LoadsAt (Rect.unit (s := S8x1x512) off' S1x1x512.size inb').toLoadRect}
    {k : Vec F S1x128x512 .bf16 → Vec F S1x1x512 .f32 → Prog (TpuEff nD τ sig (Elt F) Λ₀ .tc) α} :
    (hMid m ρ c c)
      ⊢ iprop((hMid m ρ c c -∗ wp frame (wpE (defs₀ (F := F)) 𝒱₀ (c : Thread nD τ) none) Set.univ (k (Oc m ρ c c) (Lc m ρ c c)) Q)
        -∗ wp frame (wpE (defs₀ (F := F)) 𝒱₀ (c : Thread nD τ) none) Set.univ
            (.op (.load soM (Rect.unit (s := S8x128x512) off S1x128x512.size inb).toLoadRect hl) fun x =>
              .op (.load slM (Rect.unit (s := S8x1x512) off' S1x1x512.size inb').toLoadRect hl') fun y => k x y) Q) := by
  unfold hMid headRes
  rw [if_neg (fun h => h rfl)]
  iintro ⟨Ho, Hl⟩ Hk
  iapply (wp_load_slot 𝒱₀ (c : Thread nD τ) none Set.univ soM c ho fullShare (Oc m ρ c c)) $$ Ho; iintro Ho
  iapply (wp_load_slot 𝒱₀ (c : Thread nD τ) none Set.univ slM c ho' fullShare (Lc m ρ c c)) $$ Hl; iintro Hl
  iapply Hk
  isplitl [Ho] <;> iassumption

/-- A copy of the quotient to the peer at distance `d`. -/
theorem st_agSend (d : ℕ) (hd0 : d % 8 ≠ 0) (ds : List ℕ) (n : Dev nD) (hn : n = up c d)
    {off off' : Fin 3 → ℕ} (ho : off = ![c.val, 0, 0]) (ho' : off' = ![c.val, 0, 0])
    (sS sR : DmaSem sig) (hsS : sS = dsem 4 (up c d)) (hsR : sR = dsem 5 c)
    {i1 : ∀ i, off i + S1x128x512.size i ≤ S8x128x512.size i} {i2 : ∀ i, off' i + S1x128x512.size i ≤ S8x128x512.size i}
    {t1 : ∀ i, (Rect.unit (s := S8x128x512) off S1x128x512.size i1).stride i = 1} {t2 : ∀ i, (Rect.unit (s := S8x128x512) off' S1x128x512.size i2).stride i = 1}
    {q1 q2 : S1x128x512.Squeezes S128x512}
    {hc : ((agM.slice (Rect.unit (s := S8x128x512) off' S1x128x512.size i2) t2).squeeze S128x512 q2 : Memref sig (Dev.tc n : Thread nD τ).2.kind .vmem S128x512 .bf16).view.ref.isScScratch = false}
    {w1 : ((agM.slice (Rect.unit (s := S8x128x512) off S1x128x512.size i1) t1).squeeze S128x512 q1).view.WordExact}
    {w2 : ((agM.slice (Rect.unit (s := S8x128x512) off' S1x128x512.size i2) t2).squeeze S128x512 q2).view.WordExact}
    {d1 : DmaTarget.Typed .vmem (.dma sR) (.remote (Dev.tc n : Thread nD τ) ((agM.slice (Rect.unit (s := S8x128x512) off' S1x128x512.size i2) t2).squeeze S128x512 q2) (.dma sS) hc)}
    {k : PUnit → Prog (TpuEff nD τ sig (Elt F) Λ₀ .tc) α} :
    iprop(records m ρ K ∗ ow c (agDebts c (d :: ds)) ∗ agIn c (up c d) ∗ agShare m ρ c (up c d))
      ⊢ iprop(((ow c (agDebts c ds) ∗ agCred c (up c d)) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma ((agM.slice (Rect.unit (s := S8x128x512) off S1x128x512.size i1) t1).squeeze S128x512 q1)
              (.remote (Dev.tc n : Thread nD τ) ((agM.slice (Rect.unit (s := S8x128x512) off' S1x128x512.size i2) t2).squeeze S128x512 q2) (.dma sS) hc) (.dma sR) w1 w2 d1) k) Q) := by
  unfold agIn agShare agCred
  rw [show agDebts c (d :: ds) = (cell (up c d) (some (5, c)), amtOf 5) :: agDebts c ds from rfl]
  iintro ⟨#HR, HO, ⟨Ht1, Ht2, Hd⟩, Hs⟩ Hk
  iapply (st_send m ρ K c 4 5 rfl n (up c d) hn (up_ne c d hd0) _ agM agM c c ho ho' sS sR hsS hsR (X := Ac m ρ c) (.rfl) (.rfl) rfl) $$ [HO Ht1 Ht2 Hd Hs]
  · iframe; iexact HR
  iintro ⟨Hc, HO⟩
  iapply Hk
  iframe

end Steps

/-- Head 7 is sent; the own share of head `c` and that of the device at distance 1 are summed. -/
theorem w7 (v2 : BitVec 32) {Q : _ → sProp (MT nD τ sig Unit (Elt F) ℕ UU ℕ)} :
    iprop(records m ρ K ∗ levAts L lv ∗ ow c (headDebts c [7] ++ agDebts c [1, 2, 3, 4, 5, 6, 7]) ∗ headRes m ρ c 7 ∗ hIn c 7
        ∗ (hMid m ρ c 0 ∗ hMid m ρ c 1 ∗ hMid m ρ c 2 ∗ hMid m ρ c 3 ∗ hMid m ρ c 4 ∗ hMid m ρ c 5 ∗ hMid m ρ c 6)
        ∗ waitIn c 1 (up c 1) ∗ waitIn c 3 (up c 1))
      ⊢ iprop(((ow c (agDebts c [1, 2, 3, 4, 5, 6, 7]) ∗ (bigSep Finset.univ fun h : Fin 8 => hMid m ρ c h) ∗ waitOut m ρ c 1 (up c 1) ∗ waitOut m ρ c 3 (up c 1))
          -∗ Q ⟨lSum0 m ρ c, oSum1 m ρ c⟩)
        -∗ wp frame (wpE (defs₀ (F := F)) 𝒱₀ (c : Thread nD τ) none) Set.univ
            (onBlocks (k0_part7 (F := F)) c v2) Q) := by
  simp only [onBlocks, k0_part7_eq_skeleton]; unfold k0_part7_skel
  simp only [Prog.lift, Prog.bind_op, Prog.bind_ret, Prog.pure_eq_ret]
  unfold lSum0 oSum1 oAt lAt
  rw [up_zero]
  iintro ⟨#HR, #Hlev, HO, Hr, Hi, ⟨Hm0, Hm1, Hm2, Hm3, Hm4, Hm5, Hm6⟩, H11, H31⟩ Hk
  iapply (st_head m ρ K c 7 (by revert c; decide) [] (agDebts c [1, 2, 3, 4, 5, 6, 7]) (fun hk hh =>
    st_headSend m ρ K c 7 hh [] (agDebts c [1, 2, 3, 4, 5, 6, 7]) _ _ (Fin.ext k0_dev22_eq) (Fin.ext k0_dev23_eq) rfl (k0_off23_eq c) rfl (k0_off24_eq c) _ _ _ _
      ((sem_at cc0_scratch5 7 rfl _).trans (sem5 7)) ((sem_at cc0_scratch6 c (k0_off22_eq c) _).trans (sem6 c))
      ((sem_at cc0_scratch7 7 rfl _).trans (sem7 7)) ((sem_at cc0_scratch8 c (k0_off22_eq c) _).trans (sem8 c)))) $$ [HO Hi Hr]
  · iframe; iexact HR
  iintro ⟨HO, Hm7⟩
  ihave HO := (show ow c (headDebts c [] ++ agDebts c [1, 2, 3, 4, 5, 6, 7]) ⊢ (ow c (agDebts c [1, 2, 3, 4, 5, 6, 7]) : sProp 𝕄) from .rfl) $$ HO
  ihave Hm := (show iprop(hMid m ρ c 0 ∗ hMid m ρ c 1 ∗ hMid m ρ c 2 ∗ hMid m ρ c 3 ∗ hMid m ρ c 4 ∗ hMid m ρ c 5 ∗ hMid m ρ c 6 ∗ hMid m ρ c 7) ⊢ bigSep Finset.univ fun h : Fin 8 => hMid m ρ c h from Entails.of_eq (fin8 _).symm) $$ [Hm0 Hm1 Hm2 Hm3 Hm4 Hm5 Hm6 Hm7]
  · iframe
  ihave Hm := (Entails.of_eq (bigSep_univ_at (fun h : Fin 8 => hMid m ρ c h) c)) $$ Hm
  icases Hm with ⟨Hmc, Hm⟩
  iapply (st_own m ρ c (k0_off25_eq c) (k0_off26_eq c)) $$ Hmc; iintro Hmc
  iapply (st_get m ρ K c 1 1 (by decide) (agDebts c [1, 2, 3, 4, 5, 6, 7]) (ag_lv c _ _ rfl) _
      ((sem_at cc0_scratch6 (up c 1) (k0_off27_eq c 0) _).trans (sem6 (up c 1))) cred_ro) $$ [HO H11]
  · iframe; isplitr <;> iassumption
  iintro ⟨HO, H11⟩
  iapply (st_get m ρ K c 3 1 (by decide) (agDebts c [1, 2, 3, 4, 5, 6, 7]) (ag_lv c _ _ rfl) _
      ((sem_at cc0_scratch8 (up c 1) (k0_off27_eq c 0) _).trans (sem8 (up c 1))) cred_rl) $$ [HO H31]
  · iframe; isplitr <;> iassumption
  iintro ⟨HO, H31⟩
  iapply (st_loadO m ρ c (up c 1) (k0_off30_eq c 0)) $$ H11; iintro H11
  ihave Hm := (Entails.of_eq (bigSep_univ_at (fun h : Fin 8 => hMid m ρ c h) c).symm) $$ [Hmc Hm]
  · iframe
  rw [wp_ret]; imodintro
  iapply Hk
  iframe

/-- The share of the device at distance 2. -/
theorem w8 (v2 : BitVec 32) {Q : _ → sProp (MT nD τ sig Unit (Elt F) ℕ UU ℕ)} :
    iprop(records m ρ K ∗ levAts L lv ∗ ow c (agDebts c [1, 2, 3, 4, 5, 6, 7]) ∗ waitOut m ρ c 3 (up c 1) ∗ waitIn c 1 (up c 2) ∗ waitIn c 3 (up c 2))
      ⊢ iprop(((ow c (agDebts c [1, 2, 3, 4, 5, 6, 7]) ∗ waitOut m ρ c 3 (up c 1) ∗ waitOut m ρ c 1 (up c 2) ∗ waitOut m ρ c 3 (up c 2))
          -∗ iprop(∀ u, Q ⟨oSum2 m ρ c, lSum2 m ρ c, u⟩))
        -∗ wp frame (wpE (defs₀ (F := F)) 𝒱₀ (c : Thread nD τ) none) Set.univ
            (onBlocks (k0_part8 (F := F)) c v2 (lSum0 m ρ c) (oSum1 m ρ c)) Q) := by
  simp only [onBlocks, k0_part8_eq_skeleton]; unfold k0_part8_skel
  simp only [Prog.lift, Prog.bind_op, Prog.bind_ret, Prog.pure_eq_ret]
  unfold oSum2 lSum2
  iintro ⟨#HR, #Hlev, HO, H31, H12, H32⟩ Hk
  iapply (st_loadL m ρ c (up c 1) (k0_off31_eq c 0)) $$ H31; iintro H31
  iapply (st_get m ρ K c 1 2 (by decide) (agDebts c [1, 2, 3, 4, 5, 6, 7]) (ag_lv c _ _ rfl) _
      ((sem_at cc0_scratch6 (up c 2) (k0_off27_eq c 1) _).trans (sem6 (up c 2))) cred_ro) $$ [HO H12]
  · iframe; isplitr <;> iassumption
  iintro ⟨HO, H12⟩
  iapply (st_get m ρ K c 3 2 (by decide) (agDebts c [1, 2, 3, 4, 5, 6, 7]) (ag_lv c _ _ rfl) _
      ((sem_at cc0_scratch8 (up c 2) (k0_off27_eq c 1) _).trans (sem8 (up c 2))) cred_rl) $$ [HO H32]
  · iframe; isplitr <;> iassumption
  iintro ⟨HO, H32⟩
  iapply (st_loadO m ρ c (up c 2) (k0_off30_eq c 1)) $$ H12; iintro H12
  iapply (st_loadL m ρ c (up c 2) (k0_off31_eq c 1)) $$ H32; iintro H32
  rw [wp_ret]; imodintro
  iapply Hk $$ [-] %_
  iframe

/-- The share of the device at distance 3, and the wait for numerators from distance 4. -/
theorem w9 (v2 : BitVec 32) (u : BitVec 32) {Q : _ → sProp (MT nD τ sig Unit (Elt F) ℕ UU ℕ)} :
    iprop(records m ρ K ∗ levAts L lv ∗ ow c (agDebts c [1, 2, 3, 4, 5, 6, 7]) ∗ waitIn c 1 (up c 3) ∗ waitIn c 3 (up c 3) ∗ waitIn c 1 (up c 4))
      ⊢ iprop(((ow c (agDebts c [1, 2, 3, 4, 5, 6, 7]) ∗ waitOut m ρ c 1 (up c 3) ∗ waitOut m ρ c 3 (up c 3) ∗ waitOut m ρ c 1 (up c 4))
          -∗ iprop(∀ u u' u'', Q ⟨oSum3 m ρ c, lSum3 m ρ c, u, u', u''⟩))
        -∗ wp frame (wpE (defs₀ (F := F)) 𝒱₀ (c : Thread nD τ) none) Set.univ
            (onBlocks (k0_part9 (F := F)) c v2 (oSum2 m ρ c) (lSum2 m ρ c) u) Q) := by
  simp only [onBlocks, k0_part9_eq_skeleton]; unfold k0_part9_skel
  simp only [Prog.lift, Prog.bind_op, Prog.bind_ret, Prog.pure_eq_ret]
  unfold oSum3 lSum3
  iintro ⟨#HR, #Hlev, HO, H13, H33, H14⟩ Hk
  iapply (st_get m ρ K c 1 3 (by decide) (agDebts c [1, 2, 3, 4, 5, 6, 7]) (ag_lv c _ _ rfl) _
      ((sem_at cc0_scratch6 (up c 3) (k0_off27_eq c 2) _).trans (sem6 (up c 3))) cred_ro) $$ [HO H13]
  · iframe; isplitr <;> iassumption
  iintro ⟨HO, H13⟩
  iapply (st_get m ρ K c 3 3 (by decide) (agDebts c [1, 2, 3, 4, 5, 6, 7]) (ag_lv c _ _ rfl) _
      ((sem_at cc0_scratch8 (up c 3) (k0_off27_eq c 2) _).trans (sem8 (up c 3))) cred_rl) $$ [HO H33]
  · iframe; isplitr <;> iassumption
  iintro ⟨HO, H33⟩
  iapply (st_loadO m ρ c (up c 3) (k0_off30_eq c 2)) $$ H13; iintro H13
  iapply (st_loadL m ρ c (up c 3) (k0_off31_eq c 2)) $$ H33; iintro H33
  iapply (st_get m ρ K c 1 4 (by decide) (agDebts c [1, 2, 3, 4, 5, 6, 7]) (ag_lv c _ _ rfl) _
      ((sem_at cc0_scratch6 (up c 4) (k0_off27_eq c 3) _).trans (sem6 (up c 4))) cred_ro) $$ [HO H14]
  · iframe; isplitr <;> iassumption
  iintro ⟨HO, H14⟩
  rw [wp_ret]; imodintro
  iapply Hk $$ [-] %_ %_ %_
  iframe

/-- The share of the device at distance 4, and the waits for that of the device at distance 5. -/
theorem w10 (v2 : BitVec 32) (u u' u'' : BitVec 32) {Q : _ → sProp (MT nD τ sig Unit (Elt F) ℕ UU ℕ)} :
    iprop(records m ρ K ∗ levAts L lv ∗ ow c (agDebts c [1, 2, 3, 4, 5, 6, 7]) ∗ waitIn c 3 (up c 4) ∗ waitOut m ρ c 1 (up c 4) ∗ waitIn c 1 (up c 5) ∗ waitIn c 3 (up c 5))
      ⊢ iprop(((ow c (agDebts c [1, 2, 3, 4, 5, 6, 7]) ∗ waitOut m ρ c 3 (up c 4) ∗ waitOut m ρ c 1 (up c 4) ∗ waitOut m ρ c 1 (up c 5) ∗ waitOut m ρ c 3 (up c 5))
          -∗ iprop(∀ u, Q ⟨oSum4 m ρ c, lSum4 m ρ c, u⟩))
        -∗ wp frame (wpE (defs₀ (F := F)) 𝒱₀ (c : Thread nD τ) none) Set.univ
            (onBlocks (k0_part10 (F := F)) c v2 (oSum3 m ρ c) (lSum3 m ρ c) u u' u'') Q) := by
  simp only [onBlocks, k0_part10_eq_skeleton]; unfold k0_part10_skel
  simp only [Prog.lift, Prog.bind_op, Prog.bind_ret, Prog.pure_eq_ret]
  unfold oSum4 lSum4
  iintro ⟨#HR, #Hlev, HO, H34, H14, H15, H35⟩ Hk
  iapply (st_get m ρ K c 3 4 (by decide) (agDebts c [1, 2, 3, 4, 5, 6, 7]) (ag_lv c _ _ rfl) _
      ((sem_at cc0_scratch8 (up c 4) (k0_off27_eq c 3) _).trans (sem8 (up c 4))) cred_rl) $$ [HO H34]
  · iframe; isplitr <;> iassumption
  iintro ⟨HO, H34⟩
  iapply (st_loadO m ρ c (up c 4) (k0_off30_eq c 3)) $$ H14; iintro H14
  iapply (st_loadL m ρ c (up c 4) (k0_off31_eq c 3)) $$ H34; iintro H34
  iapply (st_get m ρ K c 1 5 (by decide) (agDebts c [1, 2, 3, 4, 5, 6, 7]) (ag_lv c _ _ rfl) _
      ((sem_at cc0_scratch6 (up c 5) (k0_off27_eq c 4) _).trans (sem6 (up c 5))) cred_ro) $$ [HO H15]
  · iframe; isplitr <;> iassumption
  iintro ⟨HO, H15⟩
  iapply (st_get m ρ K c 3 5 (by decide) (agDebts c [1, 2, 3, 4, 5, 6, 7]) (ag_lv c _ _ rfl) _
      ((sem_at cc0_scratch8 (up c 5) (k0_off27_eq c 4) _).trans (sem8 (up c 5))) cred_rl) $$ [HO H35]
  · iframe; isplitr <;> iassumption
  iintro ⟨HO, H35⟩
  rw [wp_ret]; imodintro
  iapply Hk $$ [-] %_
  iframe

/-- The shares of the devices at distances 5 and 6. -/
theorem w11 (v2 : BitVec 32) (u : BitVec 32) {Q : _ → sProp (MT nD τ sig Unit (Elt F) ℕ UU ℕ)} :
    iprop(records m ρ K ∗ levAts L lv ∗ ow c (agDebts c [1, 2, 3, 4, 5, 6, 7]) ∗ waitOut m ρ c 1 (up c 5) ∗ waitOut m ρ c 3 (up c 5) ∗ waitIn c 1 (up c 6) ∗ waitIn c 3 (up c 6))
      ⊢ iprop(((ow c (agDebts c [1, 2, 3, 4, 5, 6, 7]) ∗ waitOut m ρ c 1 (up c 5) ∗ waitOut m ρ c 3 (up c 5) ∗ waitOut m ρ c 1 (up c 6) ∗ waitOut m ρ c 3 (up c 6))
          -∗ iprop(∀ u, Q ⟨oSum6 m ρ c, lSum6 m ρ c, u⟩))
        -∗ wp frame (wpE (defs₀ (F := F)) 𝒱₀ (c : Thread nD τ) none) Set.univ
            (onBlocks (k0_part11 (F := F)) c v2 (oSum4 m ρ c) (lSum4 m ρ c) u) Q) := by
  simp only [onBlocks, k0_part11_eq_skeleton]; unfold k0_part11_skel
  simp only [Prog.lift, Prog.bind_op, Prog.bind_ret, Prog.pure_eq_ret]
  unfold oSum6 lSum6
  iintro ⟨#HR, #Hlev, HO, H15, H35, H16, H36⟩ Hk
  iapply (st_loadO m ρ c (up c 5) (k0_off30_eq c 4)) $$ H15; iintro H15
  iapply (st_loadL m ρ c (up c 5) (k0_off31_eq c 4)) $$ H35; iintro H35
  iapply (st_get m ρ K c 1 6 (by decide) (agDebts c [1, 2, 3, 4, 5, 6, 7]) (ag_lv c _ _ rfl) _
      ((sem_at cc0_scratch6 (up c 6) (k0_off27_eq c 5) _).trans (sem6 (up c 6))) cred_ro) $$ [HO H16]
  · iframe; isplitr <;> iassumption
  iintro ⟨HO, H16⟩
  iapply (st_get m ρ K c 3 6 (by decide) (agDebts c [1, 2, 3, 4, 5, 6, 7]) (ag_lv c _ _ rfl) _
      ((sem_at cc0_scratch8 (up c 6) (k0_off27_eq c 5) _).trans (sem8 (up c 6))) cred_rl) $$ [HO H36]
  · iframe; isplitr <;> iassumption
  iintro ⟨HO, H36⟩
  iapply (st_loadO m ρ c (up c 6) (k0_off30_eq c 5)) $$ H16; iintro H16
  iapply (st_loadL m ρ c (up c 6) (k0_off31_eq c 5)) $$ H36; iintro H36
  rw [wp_ret]; imodintro
  iapply Hk $$ [-] %_
  iframe

/-- The share of the device at distance 7, and the quotient. -/
theorem w12 (v2 : BitVec 32) (u : BitVec 32) {Q : _ → sProp (MT nD τ sig Unit (Elt F) ℕ UU ℕ)} :
    iprop(records m ρ K ∗ levAts L lv ∗ ow c (agDebts c [1, 2, 3, 4, 5, 6, 7]) ∗ waitIn c 1 (up c 7) ∗ waitIn c 3 (up c 7) ∗ slotAny (c : Thread nD τ) agM c)
      ⊢ iprop(((ow c (agDebts c [1, 2, 3, 4, 5, 6, 7]) ∗ waitOut m ρ c 1 (up c 7) ∗ waitOut m ρ c 3 (up c 7) ∗ slotOwn (c : Thread nD τ) agM c fullShare (Ac m ρ c))
          -∗ iprop(∀ u, Q u))
        -∗ wp frame (wpE (defs₀ (F := F)) 𝒱₀ (c : Thread nD τ) none) Set.univ
            (onBlocks (k0_part12 (F := F)) c v2 (oSum6 m ρ c) (lSum6 m ρ c) u) Q) := by
  simp only [onBlocks, k0_part12_eq_skeleton]; unfold k0_part12_skel
  simp only [Prog.lift, Prog.bind_op, Prog.bind_ret, Prog.pure_eq_ret]
  unfold Ac
  iintro ⟨#HR, #Hlev, HO, H17, H37, Hs⟩ Hk
  iapply (st_get m ρ K c 1 7 (by decide) (agDebts c [1, 2, 3, 4, 5, 6, 7]) (ag_lv c _ _ rfl) _
      ((sem_at cc0_scratch6 (up c 7) (k0_off27_eq c 6) _).trans (sem6 (up c 7))) cred_ro) $$ [HO H17]
  · iframe; isplitr <;> iassumption
  iintro ⟨HO, H17⟩
  iapply (st_get m ρ K c 3 7 (by decide) (agDebts c [1, 2, 3, 4, 5, 6, 7]) (ag_lv c _ _ rfl) _
      ((sem_at cc0_scratch8 (up c 7) (k0_off27_eq c 6) _).trans (sem8 (up c 7))) cred_rl) $$ [HO H37]
  · iframe; isplitr <;> iassumption
  iintro ⟨HO, H37⟩
  iapply (st_loadO m ρ c (up c 7) (k0_off30_eq c 6)) $$ H17; iintro H17
  iapply (st_loadL m ρ c (up c 7) (k0_off31_eq c 6)) $$ H37; iintro H37
  iapply (wp_load_slotAny 𝒱₀ (c : Thread nD τ) none Set.univ agM c (k0_off25_eq c)) $$ Hs; iintro Hs
  iapply (wp_store_slot 𝒱₀ (c : Thread nD τ) none Set.univ agM c (k0_off25_eq c)) $$ Hs; iintro Hs
  rw [wp_ret]; imodintro
  iapply Hk $$ [-] %_
  iframe

/-- The quotient is sent to the devices at distances 1 to 3. -/
theorem w13 (v2 : BitVec 32) (u : BitVec 32) {Q : _ → sProp (MT nD τ sig Unit (Elt F) ℕ UU ℕ)} :
    iprop(records m ρ K ∗ ow c (agDebts c [1, 2, 3, 4, 5, 6, 7]) ∗ (agIn c (up c 1) ∗ agShare m ρ c (up c 1)) ∗ (agIn c (up c 2) ∗ agShare m ρ c (up c 2)) ∗ (agIn c (up c 3) ∗ agShare m ρ c (up c 3)))
      ⊢ iprop(((ow c (agDebts c [4, 5, 6, 7]) ∗ agCred c (up c 1) ∗ agCred c (up c 2) ∗ agCred c (up c 3))
          -∗ iprop(∀ u, Q u))
        -∗ wp frame (wpE (defs₀ (F := F)) 𝒱₀ (c : Thread nD τ) none) Set.univ
            (onBlocks (k0_part13 (F := F)) c v2 u) Q) := by
  simp only [onBlocks, k0_part13_eq_skeleton]; unfold k0_part13_skel
  simp only [Prog.lift, Prog.bind_op, Prog.bind_ret, Prog.pure_eq_ret]
  iintro ⟨#HR, HO, ⟨Hi1, Hs1⟩, ⟨Hi2, Hs2⟩, Hi3, Hs3⟩ Hk
  iapply (st_agSend m ρ K c 1 (by decide) [2, 3, 4, 5, 6, 7] _ (Fin.ext (k0_dev24_eq c)) (k0_off33_eq c) (k0_off33_eq c) _ _
      ((sem_at cc0_scratch9 (up c 1) (k0_off27_eq c 0) _).trans (sem9 (up c 1))) ((sem_at cc0_scratch10 c (k0_off32_eq c) _).trans (sem10 c))) $$ [HO Hi1 Hs1]
  · iframe; iexact HR
  iintro ⟨HO, Hc1⟩
  iapply (st_agSend m ρ K c 2 (by decide) [3, 4, 5, 6, 7] _ (Fin.ext (k0_dev25_eq c)) (k0_off33_eq c) (k0_off33_eq c) _ _
      ((sem_at cc0_scratch9 (up c 2) (k0_off27_eq c 1) _).trans (sem9 (up c 2))) ((sem_at cc0_scratch10 c (k0_off32_eq c) _).trans (sem10 c))) $$ [HO Hi2 Hs2]
  · iframe; iexact HR
  iintro ⟨HO, Hc2⟩
  iapply (st_agSend m ρ K c 3 (by decide) [4, 5, 6, 7] _ (Fin.ext (k0_dev26_eq c)) (k0_off33_eq c) (k0_off33_eq c) _ _
      ((sem_at cc0_scratch9 (up c 3) (k0_off27_eq c 2) _).trans (sem9 (up c 3))) ((sem_at cc0_scratch10 c (k0_off32_eq c) _).trans (sem10 c))) $$ [HO Hi3 Hs3]
  · iframe; iexact HR
  iintro ⟨HO, Hc3⟩
  rw [wp_ret]; imodintro
  iapply Hk $$ [-] %_
  iframe

/-- The quotient is sent to the devices at distances 4 and 5. -/
theorem w14 (v2 : BitVec 32) (u : BitVec 32) {Q : _ → sProp (MT nD τ sig Unit (Elt F) ℕ UU ℕ)} :
    iprop(records m ρ K ∗ ow c (agDebts c [4, 5, 6, 7]) ∗ (agIn c (up c 4) ∗ agShare m ρ c (up c 4)) ∗ (agIn c (up c 5) ∗ agShare m ρ c (up c 5)))
      ⊢ iprop(((ow c (agDebts c [6, 7]) ∗ agCred c (up c 4) ∗ agCred c (up c 5))
          -∗ Q ⟨⟩)
        -∗ wp frame (wpE (defs₀ (F := F)) 𝒱₀ (c : Thread nD τ) none) Set.univ
            (onBlocks (k0_part14 (F := F)) c v2 u) Q) := by
  simp only [onBlocks, k0_part14_eq_skeleton]; unfold k0_part14_skel
  simp only [Prog.lift, Prog.bind_op, Prog.bind_ret, Prog.pure_eq_ret]
  iintro ⟨#HR, HO, ⟨Hi4, Hs4⟩, Hi5, Hs5⟩ Hk
  iapply (st_agSend m ρ K c 4 (by decide) [5, 6, 7] _ (Fin.ext (k0_dev27_eq c)) (k0_off33_eq c) (k0_off33_eq c) _ _
      ((sem_at cc0_scratch9 (up c 4) (k0_off27_eq c 3) _).trans (sem9 (up c 4))) ((sem_at cc0_scratch10 c (k0_off32_eq c) _).trans (sem10 c))) $$ [HO Hi4 Hs4]
  · iframe; iexact HR
  iintro ⟨HO, Hc4⟩
  iapply (st_agSend m ρ K c 5 (by decide) [6, 7] _ (Fin.ext (k0_dev28_eq c)) (k0_off33_eq c) (k0_off33_eq c) _ _
      ((sem_at cc0_scratch9 (up c 5) (k0_off27_eq c 4) _).trans (sem9 (up c 5))) ((sem_at cc0_scratch10 c (k0_off32_eq c) _).trans (sem10 c))) $$ [HO Hi5 Hs5]
  · iframe; iexact HR
  iintro ⟨HO, Hc5⟩
  rw [wp_ret]; imodintro
  iapply Hk
  iframe

/-- The quotient is sent to the devices at distances 6 and 7; the own head is projected. -/
theorem w15 (v2 : BitVec 32) {Q : _ → sProp (MT nD τ sig Unit (Elt F) ℕ UU ℕ)} :
    iprop(records m ρ K ∗ levAts L lv ∗ ow c (agDebts c [6, 7]) ∗ (agIn c (up c 6) ∗ agShare m ρ c (up c 6)) ∗ (agIn c (up c 7) ∗ agShare m ρ c (up c 7))
        ∗ agShare m ρ c c ∗ holds c cc0_stg2_0 (wos m ρ c) ∗ waitIn c 5 (up c 1))
      ⊢ iprop(((ow c [] ∗ agCred c (up c 6) ∗ agCred c (up c 7) ∗ agShare m ρ c c ∗ holds c cc0_stg2_0 (wos m ρ c) ∗ waitOut m ρ c 5 (up c 1))
          -∗ iprop(∀ u, Q ⟨acc0 m ρ c, u, wAt m ρ c 1⟩))
        -∗ wp frame (wpE (defs₀ (F := F)) 𝒱₀ (c : Thread nD τ) none) Set.univ
            (onBlocks (k0_part15 (F := F)) c v2) Q) := by
  simp only [onBlocks, k0_part15_eq_skeleton]; unfold k0_part15_skel
  simp only [Prog.lift, Prog.bind_op, Prog.bind_ret, Prog.pure_eq_ret]
  unfold acc0 wAt aAt
  rw [up_zero]
  iintro ⟨#HR, #Hlev, HO, ⟨Hi6, Hs6⟩, ⟨Hi7, Hs7⟩, Hs, Hw, H51⟩ Hk
  iapply (st_agSend m ρ K c 6 (by decide) [7] _ (Fin.ext (k0_dev29_eq c)) (k0_off33_eq c) (k0_off33_eq c) _ _
      ((sem_at cc0_scratch9 (up c 6) (k0_off27_eq c 5) _).trans (sem9 (up c 6))) ((sem_at cc0_scratch10 c (k0_off32_eq c) _).trans (sem10 c))) $$ [HO Hi6 Hs6]
  · iframe; iexact HR
  iintro ⟨HO, Hc6⟩
  iapply (st_agSend m ρ K c 7 (by decide) [] _ (Fin.ext (k0_dev30_eq c)) (k0_off33_eq c) (k0_off33_eq c) _ _
      ((sem_at cc0_scratch9 (up c 7) (k0_off27_eq c 6) _).trans (sem9 (up c 7))) ((sem_at cc0_scratch10 c (k0_off32_eq c) _).trans (sem10 c))) $$ [HO Hi7 Hs7]
  · iframe; iexact HR
  iintro ⟨HO, Hc7⟩
  ihave HO := (show ow c (agDebts c []) ⊢ (ow c [] : sProp 𝕄) from .rfl) $$ HO
  iapply (st_wo m ρ c c (k0_off34_eq c)) $$ Hw; iintro Hw
  ihave Hs := (show agShare m ρ c c ⊢ slotOwn (c : Thread nD τ) agM c (ShareLeaves.leaf 3 fullShare c) (Ac m ρ c) from .rfl) $$ Hs
  iapply (wp_load_slot 𝒱₀ (c : Thread nD τ) none Set.univ agM c (k0_off25_eq c) (ShareLeaves.leaf 3 fullShare c) (Ac m ρ c)) $$ Hs; iintro Hs
  ihave Hs := (show slotOwn (c : Thread nD τ) agM c (ShareLeaves.leaf 3 fullShare c) (Ac m ρ c) ⊢ agShare m ρ c c from .rfl) $$ Hs
  iapply (st_get m ρ K c 5 1 (by decide) [] (fun _ he => by cases he) _
      ((sem_at cc0_scratch10 (up c 1) (k0_off27_eq c 0) _).trans (sem10 (up c 1))) cred_ag) $$ [HO H51]
  · iframe; isplitr <;> iassumption
  iintro ⟨HO, H51⟩
  iapply (st_wo m ρ c (up c 1) (k0_off35_eq c 0)) $$ Hw; iintro Hw
  rw [wp_ret]; imodintro
  iapply Hk $$ [-] %_
  iframe

/-- The heads at distances 1 and 2 are projected. -/
theorem w16 (v2 : BitVec 32) (u : BitVec 32) {Q : _ → sProp (MT nD τ sig Unit (Elt F) ℕ UU ℕ)} :
    iprop(records m ρ K ∗ levAts L lv ∗ ow c [] ∗ holds c cc0_stg2_0 (wos m ρ c) ∗ waitOut m ρ c 5 (up c 1) ∗ waitIn c 5 (up c 2))
      ⊢ iprop(((ow c [] ∗ holds c cc0_stg2_0 (wos m ρ c) ∗ waitOut m ρ c 5 (up c 1) ∗ waitOut m ρ c 5 (up c 2))
          -∗ iprop(∀ u, Q ⟨acc2 m ρ c, u⟩))
        -∗ wp frame (wpE (defs₀ (F := F)) 𝒱₀ (c : Thread nD τ) none) Set.univ
            (onBlocks (k0_part16 (F := F)) c v2 (acc0 m ρ c) u (wAt m ρ c 1)) Q) := by
  simp only [onBlocks, k0_part16_eq_skeleton]; unfold k0_part16_skel
  simp only [Prog.lift, Prog.bind_op, Prog.bind_ret, Prog.pure_eq_ret]
  unfold acc2
  iintro ⟨#HR, #Hlev, HO, Hw, H51, H52⟩ Hk
  iapply (st_loadA m ρ c (up c 1) (k0_off30_eq c 0)) $$ H51; iintro H51
  iapply (st_get m ρ K c 5 2 (by decide) [] (fun _ he => by cases he) _
      ((sem_at cc0_scratch10 (up c 2) (k0_off27_eq c 1) _).trans (sem10 (up c 2))) cred_ag) $$ [HO H52]
  · iframe; isplitr <;> iassumption
  iintro ⟨HO, H52⟩
  iapply (st_wo m ρ c (up c 2) (k0_off35_eq c 1)) $$ Hw; iintro Hw
  iapply (st_loadA m ρ c (up c 2) (k0_off30_eq c 1)) $$ H52; iintro H52
  rw [wp_ret]; imodintro
  iapply Hk $$ [-] %_
  iframe

/-- The heads at distances 3 and 4 are projected. -/
theorem w17 (v2 : BitVec 32) (u : BitVec 32) {Q : _ → sProp (MT nD τ sig Unit (Elt F) ℕ UU ℕ)} :
    iprop(records m ρ K ∗ levAts L lv ∗ ow c [] ∗ holds c cc0_stg2_0 (wos m ρ c) ∗ waitIn c 5 (up c 3) ∗ waitIn c 5 (up c 4))
      ⊢ iprop(((ow c [] ∗ holds c cc0_stg2_0 (wos m ρ c) ∗ waitOut m ρ c 5 (up c 3) ∗ waitOut m ρ c 5 (up c 4))
          -∗ iprop(∀ u, Q ⟨acc4 m ρ c, u⟩))
        -∗ wp frame (wpE (defs₀ (F := F)) 𝒱₀ (c : Thread nD τ) none) Set.univ
            (onBlocks (k0_part17 (F := F)) c v2 (acc2 m ρ c) u) Q) := by
  simp only [onBlocks, k0_part17_eq_skeleton]; unfold k0_part17_skel
  simp only [Prog.lift, Prog.bind_op, Prog.bind_ret, Prog.pure_eq_ret]
  unfold acc4
  iintro ⟨#HR, #Hlev, HO, Hw, H53, H54⟩ Hk
  iapply (st_get m ρ K c 5 3 (by decide) [] (fun _ he => by cases he) _
      ((sem_at cc0_scratch10 (up c 3) (k0_off27_eq c 2) _).trans (sem10 (up c 3))) cred_ag) $$ [HO H53]
  · iframe; isplitr <;> iassumption
  iintro ⟨HO, H53⟩
  iapply (st_wo m ρ c (up c 3) (k0_off35_eq c 2)) $$ Hw; iintro Hw
  iapply (st_loadA m ρ c (up c 3) (k0_off30_eq c 2)) $$ H53; iintro H53
  iapply (st_get m ρ K c 5 4 (by decide) [] (fun _ he => by cases he) _
      ((sem_at cc0_scratch10 (up c 4) (k0_off27_eq c 3) _).trans (sem10 (up c 4))) cred_ag) $$ [HO H54]
  · iframe; isplitr <;> iassumption
  iintro ⟨HO, H54⟩
  iapply (st_wo m ρ c (up c 4) (k0_off35_eq c 3)) $$ Hw; iintro Hw
  iapply (st_loadA m ρ c (up c 4) (k0_off30_eq c 3)) $$ H54; iintro H54
  rw [wp_ret]; imodintro
  iapply Hk $$ [-] %_
  iframe

/-- The heads at distances 5 and 6 are projected. -/
theorem w18 (v2 : BitVec 32) (u : BitVec 32) {Q : _ → sProp (MT nD τ sig Unit (Elt F) ℕ UU ℕ)} :
    iprop(records m ρ K ∗ levAts L lv ∗ ow c [] ∗ holds c cc0_stg2_0 (wos m ρ c) ∗ waitIn c 5 (up c 5) ∗ waitIn c 5 (up c 6))
      ⊢ iprop(((ow c [] ∗ holds c cc0_stg2_0 (wos m ρ c) ∗ waitOut m ρ c 5 (up c 5) ∗ waitOut m ρ c 5 (up c 6))
          -∗ iprop(∀ u u', Q ⟨acc6 m ρ c, u, u'⟩))
        -∗ wp frame (wpE (defs₀ (F := F)) 𝒱₀ (c : Thread nD τ) none) Set.univ
            (onBlocks (k0_part18 (F := F)) c v2 (acc4 m ρ c) u) Q) := by
  simp only [onBlocks, k0_part18_eq_skeleton]; unfold k0_part18_skel
  simp only [Prog.lift, Prog.bind_op, Prog.bind_ret, Prog.pure_eq_ret]
  unfold acc6
  iintro ⟨#HR, #Hlev, HO, Hw, H55, H56⟩ Hk
  iapply (st_get m ρ K c 5 5 (by decide) [] (fun _ he => by cases he) _
      ((sem_at cc0_scratch10 (up c 5) (k0_off27_eq c 4) _).trans (sem10 (up c 5))) cred_ag) $$ [HO H55]
  · iframe; isplitr <;> iassumption
  iintro ⟨HO, H55⟩
  iapply (st_wo m ρ c (up c 5) (k0_off35_eq c 4)) $$ Hw; iintro Hw
  iapply (st_loadA m ρ c (up c 5) (k0_off30_eq c 4)) $$ H55; iintro H55
  iapply (st_get m ρ K c 5 6 (by decide) [] (fun _ he => by cases he) _
      ((sem_at cc0_scratch10 (up c 6) (k0_off27_eq c 5) _).trans (sem10 (up c 6))) cred_ag) $$ [HO H56]
  · iframe; isplitr <;> iassumption
  iintro ⟨HO, H56⟩
  iapply (st_wo m ρ c (up c 6) (k0_off35_eq c 5)) $$ Hw; iintro Hw
  iapply (st_loadA m ρ c (up c 6) (k0_off30_eq c 5)) $$ H56; iintro H56
  rw [wp_ret]; imodintro
  iapply Hk $$ [-] %_ %_
  iframe

/-- The head at distance 7 is projected and the result stored; the sends of heads 0 to 3 complete. -/
theorem w19 (v2 : BitVec 32) (u u' : BitVec 32) {Q : _ → sProp (MT nD τ sig Unit (Elt F) ℕ UU ℕ)} :
    iprop(records m ρ K ∗ levAts L lv ∗ ow c [] ∗ holds c cc0_stg2_0 (wos m ρ c) ∗ waitIn c 5 (up c 7) ∗ (∃ f, holds c cc0_stg5_0 f)
        ∗ (hMid m ρ c 0 ∗ hPos c 0 0) ∗ (hMid m ρ c 1 ∗ hPos c 0 1) ∗ (hMid m ρ c 2 ∗ hPos c 0 2) ∗ (hMid m ρ c 3 ∗ hPos c 0 3))
      ⊢ iprop(((ow c [] ∗ holds c cc0_stg2_0 (wos m ρ c) ∗ waitOut m ρ c 5 (up c 7) ∗ holds c cc0_stg5_0 (outc m ρ c)
        ∗ (headRes m ρ c 0 ∗ hPos c 1 0) ∗ (headRes m ρ c 1 ∗ hPos c 1 1) ∗ (headRes m ρ c 2 ∗ hPos c 1 2) ∗ (headRes m ρ c 3 ∗ hPos c 1 3))
          -∗ Q ⟨⟩)
        -∗ wp frame (wpE (defs₀ (F := F)) 𝒱₀ (c : Thread nD τ) none) Set.univ
            (onBlocks (k0_part19 (F := F)) c v2 (acc6 m ρ c) u u') Q) := by
  simp only [onBlocks, k0_part19_eq_skeleton]; unfold k0_part19_skel
  simp only [Prog.lift, Prog.bind_op, Prog.bind_ret, Prog.pure_eq_ret]
  unfold outc
  iintro ⟨#HR, #Hlev, HO, Hw, H57, ⟨%f, Hf⟩, ⟨Hm0, Hp0⟩, ⟨Hm1, Hp1⟩, ⟨Hm2, Hp2⟩, Hm3, Hp3⟩ Hk
  iapply (st_get m ρ K c 5 7 (by decide) [] (fun _ he => by cases he) _
      ((sem_at cc0_scratch10 (up c 7) (k0_off27_eq c 6) _).trans (sem10 (up c 7))) cred_ag) $$ [HO H57]
  · iframe; isplitr <;> iassumption
  iintro ⟨HO, H57⟩
  iapply (st_wo m ρ c (up c 7) (k0_off35_eq c 6)) $$ Hw; iintro Hw
  iapply (st_loadA m ρ c (up c 7) (k0_off30_eq c 6)) $$ H57; iintro H57
  iapply (wp_load 𝒱₀ (c : Thread nD τ) none Set.univ (m := outM) (Finset.subset_univ _)) $$ Hf; iintro Hf
  iapply (wp_store 𝒱₀ (c : Thread nD τ) none Set.univ (m := outM) (r := Rect.unit (s := S512x1024) ![0, 0] S512x1024.size inb_S512x1024_S512x1024_0_0) (Mk := Finset.univ) (Finset.subset_univ _)) $$ Hf; iintro Hf
  rw [write_out]
  iapply (st_headEnd m ρ K c 0 (by revert c; decide) (fun hk hh =>
    st_headWait m ρ K c 0 hh _ _ ((sem_at cc0_scratch5 0 rfl _).trans (sem5 0)) ((sem_at cc0_scratch7 0 rfl _).trans (sem7 0)) cred_so cred_sl)) $$ [HO Hm0 Hp0]
  · iframe; isplitr <;> iassumption
  iintro ⟨HO, Hr0, Hp0⟩
  iapply (st_headEnd m ρ K c 1 (by revert c; decide) (fun hk hh =>
    st_headWait m ρ K c 1 hh _ _ ((sem_at cc0_scratch5 1 rfl _).trans (sem5 1)) ((sem_at cc0_scratch7 1 rfl _).trans (sem7 1)) cred_so cred_sl)) $$ [HO Hm1 Hp1]
  · iframe; isplitr <;> iassumption
  iintro ⟨HO, Hr1, Hp1⟩
  iapply (st_headEnd m ρ K c 2 (by revert c; decide) (fun hk hh =>
    st_headWait m ρ K c 2 hh _ _ ((sem_at cc0_scratch5 2 rfl _).trans (sem5 2)) ((sem_at cc0_scratch7 2 rfl _).trans (sem7 2)) cred_so cred_sl)) $$ [HO Hm2 Hp2]
  · iframe; isplitr <;> iassumption
  iintro ⟨HO, Hr2, Hp2⟩
  iapply (st_headEnd m ρ K c 3 (by revert c; decide) (fun hk hh =>
    st_headWait m ρ K c 3 hh _ _ ((sem_at cc0_scratch5 3 rfl _).trans (sem5 3)) ((sem_at cc0_scratch7 3 rfl _).trans (sem7 3)) cred_so cred_sl)) $$ [HO Hm3 Hp3]
  · iframe; isplitr <;> iassumption
  iintro ⟨HO, Hr3, Hp3⟩
  rw [wp_ret]; imodintro
  iapply Hk
  iframe

/-- The sends of heads 4 to 7 complete, and those of the quotient to distances 1 and 2. -/
theorem w20 (v2 : BitVec 32) {Q : _ → sProp (MT nD τ sig Unit (Elt F) ℕ UU ℕ)} :
    iprop(records m ρ K ∗ levAts L lv ∗ ow c [] ∗ waitIn c 4 (up c 1) ∗ waitIn c 4 (up c 2)
        ∗ (hMid m ρ c 4 ∗ hPos c 0 4) ∗ (hMid m ρ c 5 ∗ hPos c 0 5) ∗ (hMid m ρ c 6 ∗ hPos c 0 6) ∗ (hMid m ρ c 7 ∗ hPos c 0 7))
      ⊢ iprop(((ow c [] ∗ waitOut m ρ c 4 (up c 1) ∗ waitOut m ρ c 4 (up c 2)
        ∗ (headRes m ρ c 4 ∗ hPos c 1 4) ∗ (headRes m ρ c 5 ∗ hPos c 1 5) ∗ (headRes m ρ c 6 ∗ hPos c 1 6) ∗ (headRes m ρ c 7 ∗ hPos c 1 7))
          -∗ Q ⟨⟩)
        -∗ wp frame (wpE (defs₀ (F := F)) 𝒱₀ (c : Thread nD τ) none) Set.univ
            (onBlocks (k0_part20 (F := F)) c v2) Q) := by
  simp only [onBlocks, k0_part20_eq_skeleton]; unfold k0_part20_skel
  simp only [Prog.lift, Prog.bind_op, Prog.bind_ret, Prog.pure_eq_ret]
  iintro ⟨#HR, #Hlev, HO, H41, H42, ⟨Hm4, Hp4⟩, ⟨Hm5, Hp5⟩, ⟨Hm6, Hp6⟩, Hm7, Hp7⟩ Hk
  iapply (st_headEnd m ρ K c 4 (by revert c; decide) (fun hk hh =>
    st_headWait m ρ K c 4 hh _ _ ((sem_at cc0_scratch5 4 rfl _).trans (sem5 4)) ((sem_at cc0_scratch7 4 rfl _).trans (sem7 4)) cred_so cred_sl)) $$ [HO Hm4 Hp4]
  · iframe; isplitr <;> iassumption
  iintro ⟨HO, Hr4, Hp4⟩
  iapply (st_headEnd m ρ K c 5 (by revert c; decide) (fun hk hh =>
    st_headWait m ρ K c 5 hh _ _ ((sem_at cc0_scratch5 5 rfl _).trans (sem5 5)) ((sem_at cc0_scratch7 5 rfl _).trans (sem7 5)) cred_so cred_sl)) $$ [HO Hm5 Hp5]
  · iframe; isplitr <;> iassumption
  iintro ⟨HO, Hr5, Hp5⟩
  iapply (st_headEnd m ρ K c 6 (by revert c; decide) (fun hk hh =>
    st_headWait m ρ K c 6 hh _ _ ((sem_at cc0_scratch5 6 rfl _).trans (sem5 6)) ((sem_at cc0_scratch7 6 rfl _).trans (sem7 6)) cred_so cred_sl)) $$ [HO Hm6 Hp6]
  · iframe; isplitr <;> iassumption
  iintro ⟨HO, Hr6, Hp6⟩
  iapply (st_headEnd m ρ K c 7 (by revert c; decide) (fun hk hh =>
    st_headWait m ρ K c 7 hh _ _ ((sem_at cc0_scratch5 7 rfl _).trans (sem5 7)) ((sem_at cc0_scratch7 7 rfl _).trans (sem7 7)) cred_so cred_sl)) $$ [HO Hm7 Hp7]
  · iframe; isplitr <;> iassumption
  iintro ⟨HO, Hr7, Hp7⟩
  iapply (st_get m ρ K c 4 1 (by decide) [] (fun _ he => by cases he) _
      ((sem_at cc0_scratch9 (up c 1) (k0_off27_eq c 0) _).trans (sem9 (up c 1))) cred_as) $$ [HO H41]
  · iframe; isplitr <;> iassumption
  iintro ⟨HO, H41⟩
  iapply (st_get m ρ K c 4 2 (by decide) [] (fun _ he => by cases he) _
      ((sem_at cc0_scratch9 (up c 2) (k0_off27_eq c 1) _).trans (sem9 (up c 2))) cred_as) $$ [HO H42]
  · iframe; isplitr <;> iassumption
  iintro ⟨HO, H42⟩
  rw [wp_ret]; imodintro
  iapply Hk
  iframe

/-- The sends of the quotient to distances 3 to 6 complete. -/
theorem w21 (v2 : BitVec 32) {Q : _ → sProp (MT nD τ sig Unit (Elt F) ℕ UU ℕ)} :
    iprop(records m ρ K ∗ levAts L lv ∗ ow c [] ∗ waitIn c 4 (up c 3) ∗ waitIn c 4 (up c 4) ∗ waitIn c 4 (up c 5) ∗ waitIn c 4 (up c 6))
      ⊢ iprop(((ow c [] ∗ waitOut m ρ c 4 (up c 3) ∗ waitOut m ρ c 4 (up c 4) ∗ waitOut m ρ c 4 (up c 5) ∗ waitOut m ρ c 4 (up c 6))
          -∗ Q ⟨⟩)
        -∗ wp frame (wpE (defs₀ (F := F)) 𝒱₀ (c : Thread nD τ) none) Set.univ
            (onBlocks (k0_part21 (F := F)) c v2) Q) := by
  simp only [onBlocks, k0_part21_eq_skeleton]; unfold k0_part21_skel
  simp only [Prog.lift, Prog.bind_op, Prog.bind_ret, Prog.pure_eq_ret]
  iintro ⟨#HR, #Hlev, HO, H43, H44, H45, H46⟩ Hk
  iapply (st_get m ρ K c 4 3 (by decide) [] (fun _ he => by cases he) _
      ((sem_at cc0_scratch9 (up c 3) (k0_off27_eq c 2) _).trans (sem9 (up c 3))) cred_as) $$ [HO H43]
  · iframe; isplitr <;> iassumption
  iintro ⟨HO, H43⟩
  iapply (st_get m ρ K c 4 4 (by decide) [] (fun _ he => by cases he) _
      ((sem_at cc0_scratch9 (up c 4) (k0_off27_eq c 3) _).trans (sem9 (up c 4))) cred_as) $$ [HO H44]
  · iframe; isplitr <;> iassumption
  iintro ⟨HO, H44⟩
  iapply (st_get m ρ K c 4 5 (by decide) [] (fun _ he => by cases he) _
      ((sem_at cc0_scratch9 (up c 5) (k0_off27_eq c 4) _).trans (sem9 (up c 5))) cred_as) $$ [HO H45]
  · iframe; isplitr <;> iassumption
  iintro ⟨HO, H45⟩
  iapply (st_get m ρ K c 4 6 (by decide) [] (fun _ he => by cases he) _
      ((sem_at cc0_scratch9 (up c 6) (k0_off27_eq c 5) _).trans (sem9 (up c 6))) cred_as) $$ [HO H46]
  · iframe; isplitr <;> iassumption
  iintro ⟨HO, H46⟩
  rw [wp_ret]; imodintro
  iapply Hk
  iframe

end Windows

end Cert.Attn
end
-- ==== Proof.Body.lean ====
/-
# The body

The windows in order: what the body does to a device's state, from the entry to the exit.
-/
module

public import proofs.«01_k».proof.Proof.Windows2

@[expose] public section

noncomputable section

namespace Cert.Attn

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

section Body

variable (K : Dev nD × KI → ℕ) (c : Dev nD)

/-- The tokens of the sends of head `h`, -/
def headTok (h : Fin 8) : sProp 𝕄 :=
  iprop(dutyTok ER (cell c (some (0, h))) 0 h ∗ dutyTok ER (cell h (some (1, c))) 0 c
    ∗ dutyTok ER (cell c (some (2, h))) 0 h ∗ dutyTok ER (cell h (some (3, c))) 0 c)
/-- of the send of the quotient to peer `p`. -/
def agTok (p : Fin 8) : sProp 𝕄 := iprop(dutyTok ER (cell c (some (4, p))) 0 p ∗ dutyTok ER (cell p (some (5, c))) 0 c)

/-- The blocks in the staging buffers. -/
def inputs : sProp 𝕄 :=
  iprop(holds c cc0_stg0_0 (xs m ρ c) ∗ holds c cc0_stg1_0 (wqs m ρ c) ∗ holds c cc0_stg2_0 (wos m ρ c)
    ∗ holds c cc0_stg3_0 (ks m ρ c) ∗ holds c cc0_stg4_0 (vs m ρ c))

/-- What the body needs besides the inputs, -/
def bodyIn : sProp 𝕄 :=
  iprop((bigSep (Finset.univ.erase c) fun p => sig1 c p) ∗ cred (tallyAt (cell c none) () 7) ∗ atPos ER (cell c none) 0 ∅ 0
    ∗ (bigSep Finset.univ fun h : Fin 8 => slotAny (c : Thread nD τ) soM h) ∗ (bigSep Finset.univ fun h : Fin 8 => slotAny (c : Thread nD τ) slM h)
    ∗ (bigSep (Finset.univ.erase c) fun p => headTok c p) ∗ (bigSep (Finset.univ.erase c) fun p => agTok c p)
    ∗ (bigSep (Finset.univ.erase c) fun p => waitIn c 1 p) ∗ (bigSep (Finset.univ.erase c) fun p => waitIn c 3 p)
    ∗ (bigSep (Finset.univ.erase c) fun p => waitIn c 5 p)
    ∗ (bigSep (Finset.univ.erase c) fun p => headPos c 0 p) ∗ (bigSep (Finset.univ.erase c) fun p => atPos ER (cell c (some (4, p))) 0 ∅ 0)
    ∗ slotAny (c : Thread nD τ) agM c)
/-- and what it leaves. -/
def bodyOut : sProp 𝕄 :=
  iprop(atPos ER (cell c none) 1 ∅ 0 ∗ (bigSep Finset.univ fun h : Fin 8 => headRes m ρ c h) ∗ (bigSep (Finset.univ.erase c) fun p => headPos c 1 p)
    ∗ (bigSep (Finset.univ.erase c) fun p => waitOut m ρ c 1 p) ∗ (bigSep (Finset.univ.erase c) fun p => waitOut m ρ c 3 p)
    ∗ (bigSep (Finset.univ.erase c) fun p => waitOut m ρ c 5 p) ∗ (bigSep (Finset.univ.erase c) fun p => waitOut m ρ c 4 p) ∗ agShare m ρ c c)

/-- A family over the peers is one over all devices that is empty at the device itself. -/
theorem off_diag (Φ : Fin 8 → sProp (MT nD τ sig Unit (Elt F) ℕ UU ℕ)) :
    (bigSep (Finset.univ.erase c) Φ) = bigSep Finset.univ fun h => if h ≠ c then Φ h else iprop(emp) :=
  (congrArg (fun s => bigSep s Φ) (Finset.filter_ne' Finset.univ c).symm).trans (bigSep_filter Finset.univ (fun h => h ≠ c) Φ)

/-- The slots that came at the barrier complete what the sends take: for one peer, -/
theorem deal1 (p : Dev nD) : iprop(barPay p c ∗ headTok c p ∗ agTok c p) ⊢ (iprop(headIn c p ∗ agIn c p) : sProp 𝕄) := by
  unfold barPay headTok agTok headIn agIn
  iintro ⟨⟨H1, H2, H3⟩, ⟨H4, H5, H6, H7⟩, H8, H9⟩
  iframe
/-- for all of them. -/
theorem deal :
    iprop((bigSep (Finset.univ.erase c) fun d => barPay d c) ∗ (bigSep (Finset.univ.erase c) fun p => headTok c p) ∗ (bigSep (Finset.univ.erase c) fun p => agTok c p))
      ⊢ (iprop((bigSep Finset.univ fun h : Fin 8 => hIn c h) ∗ (bigSep (Finset.univ.erase c) fun p => agIn c p)) : sProp 𝕄) := by
  unfold hIn
  rw [← off_diag c (fun h => headIn c h)]
  rw [← bigSep_sep', ← bigSep_sep', ← bigSep_sep']
  exact bigSep_mono fun p _ => deal1 c p

/-- The positions at the send cells of the heads, in the two forms. -/
theorem hPos_eq (r : ℕ) : (bigSep (Finset.univ.erase c) fun p => headPos c r p : sProp 𝕄) = bigSep Finset.univ fun h : Fin 8 => hPos c r h :=
  off_diag c fun h => headPos c r h

/-- The quotient's slot in eight shares: one of the device's own, one for each peer. -/
theorem ag_shares : (slotOwn (c : Thread nD τ) agM c fullShare (Ac m ρ c) : sProp 𝕄) = iprop(agShare m ρ c c ∗ bigSep (Finset.univ.erase c) fun p => agShare m ρ c p) := by
  rw [← bigSep_univ_at (fun p : Fin 8 => agShare m ρ c p) c]
  exact owns_leaves (Val := Elt F) (c : Thread nD τ) (slotM (c : Thread nD τ) agM c) (Ac m ρ c) 3 fullShare

/-- The credit and the position of a send of the quotient. -/
theorem wait4 (p : Fin 8) : (iprop(agCred c p ∗ atPos ER (cell c (some (4, p))) 0 ∅ 0) : sProp 𝕄) ⊢ waitIn c 4 p := .rfl

set_option maxHeartbeats 1600000 in
/-- The body, from the entry to the exit. -/
theorem run_body (Q : PUnit → sProp (MT nD τ sig Unit (Elt F) ℕ UU ℕ)) :
    iprop(records m ρ K ∗ levAts L lv ∗ ow c (debts c) ∗ inputs m ρ c ∗ (∃ f, holds c cc0_stg5_0 f) ∗ bodyIn c)
      ⊢ iprop(((ow c [] ∗ inputs m ρ c ∗ holds c cc0_stg5_0 (outc m ρ c) ∗ bodyOut m ρ c) -∗ Q ⟨⟩)
        -∗ wp frame (wpE (defs₀ (F := F)) 𝒱₀ (c : Thread nD τ) none) Set.univ (onBlocks (cc0_body (F := F))) Q) := by
  simp only [onBlocks, cc0_body_eq_skeleton]; unfold cc0_body_skel
  unfold inputs bodyIn debts
  simp only [ring7, fin8]
  iintro ⟨#HR, #Hlev, HO, ⟨Hx, Hq, Hw, Hk', Hv⟩, Hf, ⟨Hg1, Hg2, Hg3, Hg4, Hg5, Hg6, Hg7⟩, Hcb, Hab, ⟨Hs0, Hs1, Hs2, Hs3, Hs4, Hs5, Hs6, Hs7⟩, ⟨Hl0, Hl1, Hl2, Hl3, Hl4, Hl5, Hl6, Hl7⟩, Ht, Hta,
    ⟨H11, H12, H13, H14, H15, H16, H17⟩, ⟨H31, H32, H33, H34, H35, H36, H37⟩, ⟨H51, H52, H53, H54, H55, H56, H57⟩, Hpos, ⟨Ha41, Ha42, Ha43, Ha44, Ha45, Ha46, Ha47⟩, Hag⟩ Hk
  ihave Ht := (Entails.of_eq (ring7 c (fun p => headTok c p)).symm) $$ Ht
  ihave Hta := (Entails.of_eq (ring7 c (fun p => agTok c p)).symm) $$ Hta
  ihave Hpos := (Entails.of_eq (ring7 c (fun p => headPos c 0 p)).symm) $$ Hpos
  rw [wp_bind]
  iapply (w1 m ρ K c _) $$ [HO Hg1 Hg2 Hg3 Hg4 Hg5]
  · iframe; first | iexact HR | (isplitr <;> iassumption)
  iintro HO %a2 %a24
  dsimp only
  rw [wp_bind]
  iapply (w2 m ρ K c [0, 1, 2, 3, 4, 5, 6, 7] [1, 2, 3, 4, 5, 6, 7] _ _ _) $$ [HO Hg6 Hg7 Hcb Hab Hx Hq Hk' Hv Hs0]
  · iframe; first | iexact HR | (isplitr <;> iassumption)
  iintro ⟨HO, Hab, Hb, Hx, Hq, Hk', Hv, Hs0⟩
  dsimp only
  ihave H := (deal c) $$ [Hb Ht Hta]
  · iframe
  icases H with ⟨H, H'⟩
  ihave H := (Entails.of_eq (fin8 (fun h => hIn c h))) $$ H
  ihave H' := (Entails.of_eq (ring7 c (fun p => agIn c p))) $$ H'
  icases H with ⟨Hi0, Hi1, Hi2, Hi3, Hi4, Hi5, Hi6, Hi7⟩
  icases H' with ⟨Hj1, Hj2, Hj3, Hj4, Hj5, Hj6, Hj7⟩
  rw [wp_bind]
  iapply (w3 m ρ K c (agDebts c [1, 2, 3, 4, 5, 6, 7]) _) $$ [HO Hs0 Hl0 Hi0 Hs1 Hl1 Hi1]
  · iframe; first | iexact HR | (isplitr <;> iassumption)
  iintro ⟨HO, Hm0, Hm1⟩
  dsimp only
  rw [wp_bind]
  iapply (w4 m ρ K c (agDebts c [1, 2, 3, 4, 5, 6, 7]) _) $$ [HO Hs2 Hl2 Hi2 Hs3 Hl3 Hi3]
  · iframe; first | iexact HR | (isplitr <;> iassumption)
  iintro ⟨HO, Hm2, Hm3⟩
  dsimp only
  rw [wp_bind]
  iapply (w5 m ρ K c (agDebts c [1, 2, 3, 4, 5, 6, 7]) _) $$ [HO Hs4 Hl4 Hi4 Hs5 Hl5 Hi5]
  · iframe; first | iexact HR | (isplitr <;> iassumption)
  iintro ⟨HO, Hm4, Hm5⟩
  rw [wp_bind]
  iapply (w6 m ρ K c (agDebts c [1, 2, 3, 4, 5, 6, 7]) _) $$ [HO Hs6 Hl6 Hi6 Hs7 Hl7 Hi7]
  · iframe; first | iexact HR | (isplitr <;> iassumption)
  iintro ⟨HO, Hm6, Hr, Hi7⟩
  rw [wp_bind]
  iapply (w7 m ρ K c _) $$ [HO Hr Hi7 Hm0 Hm1 Hm2 Hm3 Hm4 Hm5 Hm6 H11 H31]
  · iframe; first | iexact HR | (isplitr <;> iassumption)
  iintro ⟨HO, Hm, H11, H31⟩
  dsimp only
  rw [wp_bind]
  iapply (w8 m ρ K c _) $$ [HO H31 H12 H32]
  · iframe; first | iexact HR | (isplitr <;> iassumption)
  iintro ⟨HO, H31, H12, H32⟩ %a8
  dsimp only
  rw [wp_bind]
  iapply (w9 m ρ K c _ _) $$ [HO H13 H33 H14]
  · iframe; first | iexact HR | (isplitr <;> iassumption)
  iintro ⟨HO, H13, H33, H14⟩ %a9 %b9 %c9
  dsimp only
  rw [wp_bind]
  iapply (w10 m ρ K c _ _ _ _) $$ [HO H34 H14 H15 H35]
  · iframe; first | iexact HR | (isplitr <;> iassumption)
  iintro ⟨HO, H34, H14, H15, H35⟩ %a10
  dsimp only
  rw [wp_bind]
  iapply (w11 m ρ K c _ _) $$ [HO H15 H35 H16 H36]
  · iframe; first | iexact HR | (isplitr <;> iassumption)
  iintro ⟨HO, H15, H35, H16, H36⟩ %a11
  dsimp only
  rw [wp_bind]
  iapply (w12 m ρ K c _ _) $$ [HO H17 H37 Hag]
  · iframe; first | iexact HR | (isplitr <;> iassumption)
  iintro ⟨HO, H17, H37, Hag⟩ %a12
  ihave Hag := (Entails.of_eq (ag_shares m ρ c)) $$ Hag
  icases Hag with ⟨Hsc, H⟩
  ihave H := (Entails.of_eq (ring7 c (fun p => agShare m ρ c p))) $$ H
  icases H with ⟨Hz1, Hz2, Hz3, Hz4, Hz5, Hz6, Hz7⟩
  rw [wp_bind]
  iapply (w13 m ρ K c _ _) $$ [HO Hj1 Hz1 Hj2 Hz2 Hj3 Hz3]
  · iframe; first | iexact HR | (isplitr <;> iassumption)
  iintro ⟨HO, Hc1, Hc2, Hc3⟩ %a13
  rw [wp_bind]
  iapply (w14 m ρ K c _ _) $$ [HO Hj4 Hz4 Hj5 Hz5]
  · iframe; first | iexact HR | (isplitr <;> iassumption)
  iintro ⟨HO, Hc4, Hc5⟩
  rw [wp_bind]
  iapply (w15 m ρ K c _) $$ [HO Hj6 Hz6 Hj7 Hz7 Hsc Hw H51]
  · iframe; first | iexact HR | (isplitr <;> iassumption)
  iintro ⟨HO, Hc6, Hc7, Hsc, Hw, H51⟩ %a15
  dsimp only
  rw [wp_bind]
  iapply (w16 m ρ K c _ _) $$ [HO Hw H51 H52]
  · iframe; first | iexact HR | (isplitr <;> iassumption)
  iintro ⟨HO, Hw, H51, H52⟩ %a16
  dsimp only
  rw [wp_bind]
  iapply (w17 m ρ K c _ _) $$ [HO Hw H53 H54]
  · iframe; first | iexact HR | (isplitr <;> iassumption)
  iintro ⟨HO, Hw, H53, H54⟩ %a17
  dsimp only
  rw [wp_bind]
  iapply (w18 m ρ K c _ _) $$ [HO Hw H55 H56]
  · iframe; first | iexact HR | (isplitr <;> iassumption)
  iintro ⟨HO, Hw, H55, H56⟩ %a18 %b18
  dsimp only
  ihave Hpos := (Entails.of_eq (hPos_eq c 0)) $$ Hpos
  ihave Hm := (Entails.of_eq (fin8 (fun h => hMid m ρ c h))) $$ Hm
  ihave Hpos := (Entails.of_eq (fin8 (fun h => hPos c 0 h))) $$ Hpos
  icases Hm with ⟨Hm0, Hm1, Hm2, Hm3, Hm4, Hm5, Hm6, Hm7⟩
  icases Hpos with ⟨Hp0, Hp1, Hp2, Hp3, Hp4, Hp5, Hp6, Hp7⟩
  rw [wp_bind]
  iapply (w19 m ρ K c _ _ _) $$ [HO Hw H57 Hf Hm0 Hp0 Hm1 Hp1 Hm2 Hp2 Hm3 Hp3]
  · iframe; first | iexact HR | (isplitr <;> iassumption)
  iintro ⟨HO, Hw, H57, Hf, ⟨Hr0, Hp0⟩, ⟨Hr1, Hp1⟩, ⟨Hr2, Hp2⟩, Hr3, Hp3⟩
  ihave H41 := (wait4 c (up c 1)) $$ [Hc1 Ha41]
  · iframe
  ihave H42 := (wait4 c (up c 2)) $$ [Hc2 Ha42]
  · iframe
  ihave H43 := (wait4 c (up c 3)) $$ [Hc3 Ha43]
  · iframe
  ihave H44 := (wait4 c (up c 4)) $$ [Hc4 Ha44]
  · iframe
  ihave H45 := (wait4 c (up c 5)) $$ [Hc5 Ha45]
  · iframe
  ihave H46 := (wait4 c (up c 6)) $$ [Hc6 Ha46]
  · iframe
  ihave H47 := (wait4 c (up c 7)) $$ [Hc7 Ha47]
  · iframe
  rw [wp_bind]
  iapply (w20 m ρ K c _) $$ [HO H41 H42 Hm4 Hp4 Hm5 Hp5 Hm6 Hp6 Hm7 Hp7]
  · iframe; first | iexact HR | (isplitr <;> iassumption)
  iintro ⟨HO, H41, H42, ⟨Hr4, Hp4⟩, ⟨Hr5, Hp5⟩, ⟨Hr6, Hp6⟩, Hr7, Hp7⟩
  rw [wp_bind]
  iapply (w21 m ρ K c _) $$ [HO H43 H44 H45 H46]
  · iframe; first | iexact HR | (isplitr <;> iassumption)
  iintro ⟨HO, H43, H44, H45, H46⟩
  simp only [Prog.lift, Prog.bind_op, Prog.bind_ret, Prog.pure_eq_ret]
  iapply (st_get m ρ K c 4 7 (by decide) [] (fun _ he => by cases he) _
      ((sem_at cc0_scratch9 (up c 7) (k0_off27_eq c 6) _).trans (sem9 (up c 7))) cred_as) $$ [HO H47]
  · iframe; isplitr <;> iassumption
  iintro ⟨HO, H47⟩
  rw [wp_ret]; imodintro
  iapply Hk
  unfold bodyOut
  rw [hPos_eq]
  simp only [ring7, fin8]
  iframe

end Body

end Cert.Attn
end
-- ==== Proof.Ends.lean ====
/-
# The two ends of the body

What the launch hands a device, sorted into what the body takes; what the body leaves, sorted back into the whole scratch
buffers and the closed semaphore cells; and from these the obligation that the launch asks of the body.
-/
module

public import proofs.«01_k».proof.Proof.Body
public import proofs.«01_k».proof.Proof.Gen.KernelIdeal.Points

@[expose] public section

noncomputable section

namespace Cert.Attn

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

section Ends

variable (K : Dev nD × KI → ℕ) (c : Dev nD)

/-- The last of three conjuncts, moved to the front. -/
theorem to_front (A B C : sProp (MT nD τ sig Unit (Elt F) ℕ UU ℕ)) : iprop((A ∗ B) ∗ C) = iprop(C ∗ A ∗ B) := by
  have h1 : iprop((A ∗ B) ∗ C) ⊢ iprop(C ∗ A ∗ B) := by
    iintro ⟨⟨H1, H2⟩, H3⟩
    iframe
  have h2 : iprop(C ∗ A ∗ B) ⊢ iprop((A ∗ B) ∗ C) := by
    iintro ⟨H1, H2, H3⟩
    iframe
  exact Entails.antisymm h1 h2

/-- A family over a device's cells: those of the arrays and the barrier's. -/
theorem cells_option (Φ : KI → sProp (MT nD τ sig Unit (Elt F) ℕ UU ℕ)) :
    bigSep Finset.univ Φ = iprop((bigSep Finset.univ fun x : Fin 6 × Fin 8 => Φ (some x)) ∗ Φ none) := by
  rw [bigSep_univ_equiv (Equiv.optionEquivSumPUnit.{0, 0} (Fin 6 × Fin 8)).symm Φ, bigSep_univ_sum]
  rw [bigSep_univ_of_subsingleton (PUnit.unit : PUnit.{1})]
  rfl

/-- The same: the barrier's, the six of the device itself, and for each array those of the peers. -/
theorem cells_split (Φ : KI → sProp (MT nD τ sig Unit (Elt F) ℕ UU ℕ)) :
    bigSep Finset.univ Φ = iprop(Φ none ∗ (bigSep Finset.univ fun a : Fin 6 => Φ (some (a, c)))
      ∗ (bigSep (Finset.univ.erase c) fun p => Φ (some (0, p))) ∗ (bigSep (Finset.univ.erase c) fun p => Φ (some (1, p)))
      ∗ (bigSep (Finset.univ.erase c) fun p => Φ (some (2, p))) ∗ (bigSep (Finset.univ.erase c) fun p => Φ (some (3, p)))
      ∗ (bigSep (Finset.univ.erase c) fun p => Φ (some (4, p))) ∗ (bigSep (Finset.univ.erase c) fun p => Φ (some (5, p)))) := by
  have h2 : (bigSep Finset.univ fun x : Fin 6 × Fin 8 => Φ (some x))
      = iprop((bigSep Finset.univ fun a : Fin 6 => Φ (some (a, c))) ∗ bigSep Finset.univ fun a : Fin 6 => bigSep (Finset.univ.erase c) fun p => Φ (some (a, p))) := by
    rw [bigSep_univ_prod, ← bigSep_sep']
    exact bigSep_congr fun a _ => bigSep_univ_at (fun p : Fin 8 => Φ (some (a, p))) c
  have h3 : ∀ Ψ : Fin 6 → sProp (MT nD τ sig Unit (Elt F) ℕ UU ℕ), bigSep Finset.univ Ψ = iprop(Ψ 0 ∗ Ψ 1 ∗ Ψ 2 ∗ Ψ 3 ∗ Ψ 4 ∗ Ψ 5) :=
    fun Ψ => bigSep_univ_eq_bigSepL [0, 1, 2, 3, 4, 5] (by decide) (by decide) Ψ
  rw [cells_option, h2, h3 (fun a => bigSep (Finset.univ.erase c) fun p => Φ (some (a, p)))]
  exact to_front _ _ _

/-- What the body leaves alone: the landing slots of its own, which nothing lands in, and the positions at the cells of its own. -/
def kept : sProp 𝕄 :=
  iprop(slotAny (c : Thread nD τ) roM c ∗ slotAny (c : Thread nD τ) rlM c ∗ bigSep Finset.univ fun a : Fin 6 => atPos ER (cell c (some (a, c))) 0 ∅ 0)

/-- A stack of eight slots: a device's own and the peers'. -/
theorem stack_peers {a b : ℕ} {e : EltTy} (M : Memref sig .tc .vmem (stackSh a b) e) :
    (ownsSat (c : Thread nD τ) M fullShare (fun _ => True) : sProp 𝕄)
      ⊢ iprop(slotAny (c : Thread nD τ) M c ∗ bigSep (Finset.univ.erase c) fun p => slotAny (c : Thread nD τ) M p) :=
  (stack_split (c : Thread nD τ) M).trans (Entails.of_eq (bigSep_univ_at (fun p : Fin 8 => slotAny (c : Thread nD τ) M p) c))

theorem peers_stack [∀ e, Nonempty (Elt F e)] {a b : ℕ} {e : EltTy} (M : Memref sig .tc .vmem (stackSh a b) e) :
    iprop(slotAny (c : Thread nD τ) M c ∗ bigSep (Finset.univ.erase c) fun p => slotAny (c : Thread nD τ) M p)
      ⊢ (ownsSat (c : Thread nD τ) M fullShare (fun _ => True) : sProp 𝕄) :=
  (Entails.of_eq (bigSep_univ_at (fun p : Fin 8 => slotAny (c : Thread nD τ) M p) c).symm).trans (stack_join (c : Thread nD τ) M)

/-- What a device starts from towards one peer, sorted; -/
theorem entry1 (p : Dev nD) :
    iprop(payToks c p ∗ peerCred c p
        ∗ (slotAny (c : Thread nD τ) roM p ∗ slotAny (c : Thread nD τ) rlM p ∗ slotAny (c : Thread nD τ) agM p)
        ∗ atPos ER (cell c (some (0, p))) 0 ∅ 0 ∗ atPos ER (cell c (some (1, p))) 0 ∅ 0 ∗ atPos ER (cell c (some (2, p))) 0 ∅ 0
        ∗ atPos ER (cell c (some (3, p))) 0 ∅ 0 ∗ atPos ER (cell c (some (5, p))) 0 ∅ 0)
      ⊢ (iprop(sig1 c p ∗ headTok c p ∗ agTok c p ∗ waitIn c 1 p ∗ waitIn c 3 p ∗ waitIn c 5 p ∗ headPos c 0 p) : sProp 𝕄) := by
  unfold payToks peerCred sig1 headTok agTok waitIn headPos barPay
  iintro ⟨⟨T1, T2, T3, T4, T5, T6, T7⟩, ⟨C1, C2, C3⟩, ⟨S1, S2, S3⟩, A0, A1, A2, A3, A5⟩
  iframe

/-- towards all of them. -/
theorem entry2 :
    iprop((bigSep (Finset.univ.erase c) fun p => payToks c p) ∗ (bigSep (Finset.univ.erase c) fun p => peerCred c p)
        ∗ ((bigSep (Finset.univ.erase c) fun p => slotAny (c : Thread nD τ) roM p) ∗ (bigSep (Finset.univ.erase c) fun p => slotAny (c : Thread nD τ) rlM p)
          ∗ (bigSep (Finset.univ.erase c) fun p => slotAny (c : Thread nD τ) agM p))
        ∗ (bigSep (Finset.univ.erase c) fun p => atPos ER (cell c (some (0, p))) 0 ∅ 0) ∗ (bigSep (Finset.univ.erase c) fun p => atPos ER (cell c (some (1, p))) 0 ∅ 0)
        ∗ (bigSep (Finset.univ.erase c) fun p => atPos ER (cell c (some (2, p))) 0 ∅ 0) ∗ (bigSep (Finset.univ.erase c) fun p => atPos ER (cell c (some (3, p))) 0 ∅ 0)
        ∗ (bigSep (Finset.univ.erase c) fun p => atPos ER (cell c (some (5, p))) 0 ∅ 0))
      ⊢ (iprop((bigSep (Finset.univ.erase c) fun p => sig1 c p) ∗ (bigSep (Finset.univ.erase c) fun p => headTok c p) ∗ (bigSep (Finset.univ.erase c) fun p => agTok c p)
        ∗ (bigSep (Finset.univ.erase c) fun p => waitIn c 1 p) ∗ (bigSep (Finset.univ.erase c) fun p => waitIn c 3 p) ∗ (bigSep (Finset.univ.erase c) fun p => waitIn c 5 p)
        ∗ (bigSep (Finset.univ.erase c) fun p => headPos c 0 p)) : sProp 𝕄) := by
  simp only [← bigSep_sep']
  exact bigSep_mono fun p _ => entry1 c p

/-- What the launch hands device `c` is what the body takes, and what it leaves alone. -/
theorem entry : iprop(start m ρ c ∗ scratch c) ⊢ (iprop(∃ K, records m ρ K ∗ levAts L lv ∗ bodyIn c ∗ kept c) : sProp 𝕄) := by
  unfold start scratch
  iintro ⟨⟨⟨%K, #HR⟩, Hat, Ht, Hc, Hpc, #Hlev⟩, Hso, Hsl, Hro, Hrl, Hag⟩
  iexists K
  ihave Hat := (Entails.of_eq (cells_split c (fun k : KI => (atPos ER (cell c k) 0 ∅ 0 : sProp 𝕄)))) $$ Hat
  icases Hat with ⟨HaN, HaS, Ha0, Ha1, Ha2, Ha3, Ha4, Ha5⟩
  ihave Hso := (stack_split (c : Thread nD τ) soM) $$ Hso
  ihave Hsl := (stack_split (c : Thread nD τ) slM) $$ Hsl
  ihave Hro := (stack_peers c roM) $$ Hro
  ihave Hrl := (stack_peers c rlM) $$ Hrl
  ihave Hag := (stack_peers c agM) $$ Hag
  icases Hro with ⟨Hroc, Hro⟩
  icases Hrl with ⟨Hrlc, Hrl⟩
  icases Hag with ⟨Hagc, Hag⟩
  ihave H := (entry2 c) $$ [Ht Hpc Hro Hrl Hag Ha0 Ha1 Ha2 Ha3 Ha5]
  · iframe
  icases H with ⟨H1, H2, H3, H4, H5, H6, H7⟩
  unfold bodyIn kept
  isplitr; · iexact HR
  isplitr; · iexact Hlev
  iframe

/-- The round a cell is left at. -/
def rnd : KI → ℕ
  | none => 1
  | some (_, h) => if h = c then 0 else 1

/-- A device's cell for itself has no round. -/
theorem rnd_self (a : Fin 6) : rnd c (some (a, c)) = 0 := if_pos rfl
/-- Its cell for a peer has one. -/
theorem rnd_peer (a : Fin 6) {p : Fin 8} (hp : p ∈ Finset.univ.erase c) : rnd c (some (a, p)) = 1 := if_neg (Finset.ne_of_mem_erase hp)

/-- From there on a cell has no duties. -/
theorem duties_rnd (k : KI) : ∀ r, rnd c k ≤ r → (sched (F := F) m ρ).duties (cell c k) r = ∅ := by
  rcases k with _ | ⟨a, h⟩
  · exact duties_later m ρ _
  · by_cases hh : h = c
    · subst hh; rw [rnd_self]; exact duties_self m ρ h a
    · rw [show rnd c (some (a, h)) = 1 from if_neg hh]; exact duties_later m ρ _

/-- A cell left there closes: its counter is zero. -/
theorem close1 (k : KI) : iprop(records m ρ K ∗ atPos ER (cell c k) (rnd c k) ∅ 0) ⊢ (|={Set.univ}=> semVal (cell c k) 0 : sProp 𝕄) := by
  iintro ⟨#HR, H⟩
  iapply (Rounds.cell_close ER (sched m ρ) (Set.mem_univ (K (c, k))) (fun h => h) (R := rnd c k) (duties_rnd m ρ c k))
  isplitr
  · iapply (inv_at m ρ K c k); iexact HR
  · iexact H

/-- Every cell of a device, its rounds over, is closed with its counter at zero. -/
theorem close_all : iprop(records m ρ K ∗ bigSep Finset.univ fun k : KI => atPos ER (cell c k) (rnd c k) ∅ 0)
    ⊢ (|={Set.univ}=> bigSep Finset.univ fun k : KI => semVal (cell c k) 0 : sProp 𝕄) := by
  refine (sep_mono_left (BI.bigSep_of_persistent (Finset.univ : Finset KI) (records m ρ K))).trans ?_
  rw [← bigSep_sep']
  exact (bigSep_mono fun k _ => close1 m ρ K c k).trans (bigSep_fupd _ _)

/-- The positions the body leaves, as a family over all cells. -/
theorem positions :
    iprop(atPos ER (cell c none) 1 ∅ 0 ∗ (bigSep Finset.univ fun a : Fin 6 => atPos ER (cell c (some (a, c))) 0 ∅ 0)
      ∗ (bigSep (Finset.univ.erase c) fun p => atPos ER (cell c (some (0, p))) 1 ∅ 0) ∗ (bigSep (Finset.univ.erase c) fun p => atPos ER (cell c (some (1, p))) 1 ∅ 0)
      ∗ (bigSep (Finset.univ.erase c) fun p => atPos ER (cell c (some (2, p))) 1 ∅ 0) ∗ (bigSep (Finset.univ.erase c) fun p => atPos ER (cell c (some (3, p))) 1 ∅ 0)
      ∗ (bigSep (Finset.univ.erase c) fun p => atPos ER (cell c (some (4, p))) 1 ∅ 0) ∗ (bigSep (Finset.univ.erase c) fun p => atPos ER (cell c (some (5, p))) 1 ∅ 0))
      = (bigSep Finset.univ fun k : KI => atPos ER (cell c k) (rnd c k) ∅ 0 : sProp 𝕄) := by
  rw [cells_split c (fun k : KI => (atPos ER (cell c k) (rnd c k) ∅ 0 : sProp 𝕄))]
  have hs : (bigSep Finset.univ fun a : Fin 6 => (atPos ER (cell c (some (a, c))) (rnd c (some (a, c))) ∅ 0 : sProp 𝕄))
      = bigSep Finset.univ fun a : Fin 6 => atPos ER (cell c (some (a, c))) 0 ∅ 0 := bigSep_congr fun a _ => by rw [rnd_self]
  have hp : ∀ a : Fin 6, (bigSep (Finset.univ.erase c) fun p => (atPos ER (cell c (some (a, p))) (rnd c (some (a, p))) ∅ 0 : sProp 𝕄))
      = bigSep (Finset.univ.erase c) fun p => atPos ER (cell c (some (a, p))) 1 ∅ 0 := fun a => bigSep_congr fun p hp => by rw [rnd_peer c a hp]
  rw [hs, hp 0, hp 1, hp 2, hp 3, hp 4, hp 5]
  rfl

/-- What the body leaves towards one peer, sorted; -/
theorem exit1 (p : Dev nD) :
    iprop(headPos c 1 p ∗ waitOut m ρ c 1 p ∗ waitOut m ρ c 3 p ∗ waitOut m ρ c 5 p ∗ waitOut m ρ c 4 p)
      ⊢ (iprop((atPos ER (cell c (some (0, p))) 1 ∅ 0 ∗ atPos ER (cell c (some (1, p))) 1 ∅ 0 ∗ atPos ER (cell c (some (2, p))) 1 ∅ 0
          ∗ atPos ER (cell c (some (3, p))) 1 ∅ 0 ∗ atPos ER (cell c (some (4, p))) 1 ∅ 0 ∗ atPos ER (cell c (some (5, p))) 1 ∅ 0)
        ∗ slotAny (c : Thread nD τ) roM p ∗ slotAny (c : Thread nD τ) rlM p ∗ slotAny (c : Thread nD τ) agM p ∗ agShare m ρ c p) : sProp 𝕄) := by
  unfold headPos waitOut
  dsimp only [dmaPay]
  iintro ⟨⟨A0, A2⟩, ⟨A1, S1⟩, ⟨A3, S3⟩, ⟨A5, S5⟩, A4, S4⟩
  ihave S1 := (slotAny_of (c : Thread nD τ) roM p _) $$ S1
  ihave S3 := (slotAny_of (c : Thread nD τ) rlM p _) $$ S3
  ihave S5 := (slotAny_of (c : Thread nD τ) agM p _) $$ S5
  unfold agShare
  iframe

/-- towards all of them. -/
theorem exit2 :
    iprop((bigSep (Finset.univ.erase c) fun p => headPos c 1 p) ∗ (bigSep (Finset.univ.erase c) fun p => waitOut m ρ c 1 p)
        ∗ (bigSep (Finset.univ.erase c) fun p => waitOut m ρ c 3 p) ∗ (bigSep (Finset.univ.erase c) fun p => waitOut m ρ c 5 p)
        ∗ (bigSep (Finset.univ.erase c) fun p => waitOut m ρ c 4 p))
      ⊢ (iprop(((bigSep (Finset.univ.erase c) fun p => atPos ER (cell c (some (0, p))) 1 ∅ 0) ∗ (bigSep (Finset.univ.erase c) fun p => atPos ER (cell c (some (1, p))) 1 ∅ 0)
          ∗ (bigSep (Finset.univ.erase c) fun p => atPos ER (cell c (some (2, p))) 1 ∅ 0) ∗ (bigSep (Finset.univ.erase c) fun p => atPos ER (cell c (some (3, p))) 1 ∅ 0)
          ∗ (bigSep (Finset.univ.erase c) fun p => atPos ER (cell c (some (4, p))) 1 ∅ 0) ∗ (bigSep (Finset.univ.erase c) fun p => atPos ER (cell c (some (5, p))) 1 ∅ 0))
        ∗ (bigSep (Finset.univ.erase c) fun p => slotAny (c : Thread nD τ) roM p) ∗ (bigSep (Finset.univ.erase c) fun p => slotAny (c : Thread nD τ) rlM p)
        ∗ (bigSep (Finset.univ.erase c) fun p => slotAny (c : Thread nD τ) agM p) ∗ (bigSep (Finset.univ.erase c) fun p => agShare m ρ c p)) : sProp 𝕄) := by
  simp only [← bigSep_sep']
  exact bigSep_mono fun p _ => exit1 m ρ c p

/-- What is left of one head at the end: both its staging slots. -/
theorem res1 (h : Fin 8) : (headRes m ρ c h : sProp 𝕄) ⊢ iprop(slotAny (c : Thread nD τ) soM h ∗ slotAny (c : Thread nD τ) slM h) := by
  unfold headRes
  iintro ⟨H1, H2⟩
  ihave H1 := (slotAny_of (c : Thread nD τ) soM h _) $$ H1
  ihave H2 := (slotAny_of (c : Thread nD τ) slM h _) $$ H2
  iframe

/-- All heads together leave the two staging buffers whole. -/
theorem res2 [∀ e, Nonempty (Elt F e)] : (bigSep Finset.univ fun h : Fin 8 => headRes m ρ c h : sProp 𝕄)
    ⊢ iprop(ownsSat (c : Thread nD τ) soM fullShare (fun _ => True) ∗ ownsSat (c : Thread nD τ) slM fullShare (fun _ => True)) := by
  refine (bigSep_mono fun h _ => res1 m ρ c h).trans ?_
  rw [bigSep_sep']
  exact BIClass.sep_mono (stack_join (c : Thread nD τ) soM) (stack_join (c : Thread nD τ) slM)

/-- What the body leaves makes up the whole scratch buffers and the closed cells. -/
theorem leave [∀ e, Nonempty (Elt F e)] : iprop(records m ρ K ∗ bodyOut m ρ c ∗ kept c) ⊢ (|={Set.univ}=> Φ₁ c : sProp 𝕄) := by
  unfold bodyOut kept
  iintro ⟨#HR, ⟨HaN, Hres, Hhp, H1, H3, H5, H4, Hagc⟩, Hroc, Hrlc, HaS⟩
  ihave H := (exit2 m ρ c) $$ [Hhp H1 H3 H5 H4]
  · iframe
  icases H with ⟨⟨A0, A1, A2, A3, A4, A5⟩, Hro, Hrl, Hag, Hsh⟩
  ihave Hat := (Entails.of_eq (positions c)) $$ [HaN HaS A0 A1 A2 A3 A4 A5]
  · iframe
  imod (close_all m ρ K c) $$ [Hat] with Hz
  · isplitr; · iexact HR
    iexact Hat
  imodintro
  ihave Hagc := (Entails.of_eq (ag_shares m ρ c).symm) $$ [Hagc Hsh]
  · iframe
  ihave Hagc := (slotAny_of (c : Thread nD τ) agM c _) $$ Hagc
  ihave Hag := (peers_stack c agM) $$ [Hagc Hag]
  · iframe
  ihave Hro := (peers_stack c roM) $$ [Hroc Hro]
  · iframe
  ihave Hrl := (peers_stack c rlM) $$ [Hrlc Hrl]
  · iframe
  ihave Hs := (res2 m ρ c) $$ Hres
  icases Hs with ⟨Hso, Hsl⟩
  unfold Φ₁ scratch
  iframe

/-- A staging buffer at contents known by an equation. -/
abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stg_intro (b : Ref sig .tc) (X : b.ty.Contents (Elt F)) : (holds c b X : sProp 𝕄) ⊢ stg c b X := by
  iintro H; iexists _; isplitr; · (ipureintro; rfl)
  iexact H

theorem stg_elim (b : Ref sig .tc) (X Y : b.ty.Contents (Elt F)) (h : X = Y) : (stg c b X : sProp 𝕄) ⊢ holds c b Y := by
  iintro ⟨%f, %hf, H⟩
  subst h hf
  iexact H

set_option maxRecDepth 4000 in
/-- What the body starts from: its start, its debts, and the six staging buffers. -/
def bodyPre : sProp 𝕄 :=
  iprop(Φ₀ m ρ c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

/-- What the body ends with: no debts, the inputs unchanged, and the output computed. -/
def bodyPost : sProp 𝕄 :=
  iprop(Φ₁ c ∗ (dats m ρ 0 c).owesAt () t₀.succ ∗ stg c cc0_stg0_0 (xs m ρ c) ∗ stg c cc0_stg1_0 (wqs m ρ c) ∗ stg c cc0_stg2_0 (wos m ρ c)
    ∗ stg c cc0_stg3_0 (ks m ρ c) ∗ stg c cc0_stg4_0 (vs m ρ c) ∗ stg c cc0_stg5_0 (outc m ρ c))

/-- The body between what the pipeline hands it and what the pipeline takes back. -/
theorem sound_body [∀ e, Nonempty (Elt F e)] :
    bodyPre m ρ c ⊢ wp frame (wpE (defs₀ (F := F)) 𝒱₀ (c : Thread nD τ) none) Set.univ (onBlocks (cc0_body (F := F))) (fun _ => bodyPost m ρ c) := by
  unfold bodyPre Φ₀
  iintro ⟨Hs, Ho, ⟨%d0, H0⟩, ⟨%d1, H1⟩, ⟨%d2, H2⟩, ⟨%d3, H3⟩, ⟨%d4, H4⟩, %d5, ⟨%f5, %h5, H5⟩⟩
  ihave H0 := (stg_elim c cc0_stg0_0 _ (xs m ρ c) (by unfold Dat.before; rw [if_pos (fetch0_0 t₀)]; rfl)) $$ H0
  ihave H1 := (stg_elim c cc0_stg1_0 _ (wqs m ρ c) (by unfold Dat.before; rw [if_pos (fetch0_1 t₀)]; rfl)) $$ H1
  ihave H2 := (stg_elim c cc0_stg2_0 _ (wos m ρ c) (by unfold Dat.before; rw [if_pos (fetch0_2 t₀)]; rfl)) $$ H2
  ihave H3 := (stg_elim c cc0_stg3_0 _ (ks m ρ c) (by unfold Dat.before; rw [if_pos (fetch0_3 t₀)]; rfl)) $$ H3
  ihave H4 := (stg_elim c cc0_stg4_0 _ (vs m ρ c) (by unfold Dat.before; rw [if_pos (fetch0_4 t₀)]; rfl)) $$ H4
  unfold Dat.owesAt Pipeline.owesWithin
  icases Ho with ⟨%W, %hW, HO⟩
  rw [show (dats m ρ 0 c).owed t₀.castSucc = tally (debts c) from rfl]
  ihave Hs := (entry m ρ c) $$ Hs
  icases Hs with ⟨%K, #HR, #Hlev, Hin, Hkept⟩
  iapply (show wp frame (wpE (defs₀ (F := F)) 𝒱₀ (c : Thread nD τ) none) Set.univ (onBlocks (cc0_body (F := F))) (fun _ => iprop(|={Set.univ}=> bodyPost m ρ c))
    ⊢ wp frame (wpE (defs₀ (F := F)) 𝒱₀ (c : Thread nD τ) none) Set.univ (onBlocks (cc0_body (F := F))) (fun _ => bodyPost m ρ c) from wp_fupd _ _ _ _ _)
  iapply (run_body m ρ K c (fun _ => iprop(|={Set.univ}=> bodyPost m ρ c))) $$ [HO H0 H1 H2 H3 H4 H5 Hin]
  · isplitr; · iexact HR
    isplitr; · iexact Hlev
    isplitl [HO]; · unfold ow; iexists W; iexact HO
    isplitl [H0 H1 H2 H3 H4]; · unfold inputs; iframe
    isplitl [H5]; · iexists f5; iexact H5
    iexact Hin
  unfold inputs
  iintro ⟨HO, ⟨H0, H1, H2, H3, H4⟩, H5, Hout⟩
  unfold ow
  icases HO with ⟨%W', HO⟩
  imod (leave m ρ K c) $$ [Hout Hkept] with HΦ
  · isplitr; · iexact HR
    iframe
  imodintro
  unfold bodyPost Dat.owesAt Pipeline.owesWithin
  rw [show (dats m ρ 0 c).owed t₀.succ = tally [] from rfl]
  isplitl [HΦ]; · iexact HΦ
  isplitl [HO]
  · iexists W'
    isplitr; · ipureintro; exact fun _ _ => Or.inl trivial
    iexact HO
  isplitl [H0]; · iapply (stg_intro c cc0_stg0_0 _); iexact H0
  isplitl [H1]; · iapply (stg_intro c cc0_stg1_0 _); iexact H1
  isplitl [H2]; · iapply (stg_intro c cc0_stg2_0 _); iexact H2
  isplitl [H3]; · iapply (stg_intro c cc0_stg3_0 _); iexact H3
  isplitl [H4]; · iapply (stg_intro c cc0_stg4_0 _); iexact H4
  iapply (stg_intro c cc0_stg5_0 _); iexact H5

set_option maxRecDepth 4000 in
/-- The obligation the launch asks of the body on device `c`. -/
theorem body_obligation [∀ e, Nonempty (Elt F e)] : BodyObligation (dats (F := F) m ρ 0 c) (defs₀ (F := F)) 𝒱₀ () Set.univ := fun t => by
  rw [fin_N t]
  rw [bigSep_W0, bigSep_W0]
  simp only [owns_whole_eq]
  show bodyPre m ρ c ⊢ wp frame (wpE (defs₀ (F := F)) 𝒱₀ (c : Thread nD τ) none) Set.univ (onBlocks (cc0_body (F := F))) (fun _ => bodyPost m ρ c)
  exact sound_body m ρ c

end Ends

end Cert.Attn
end
-- ==== Proof.Launch.lean ====
/-
# The launch

The launch's resources dealt to the devices: the cells' invariants and positions, the duty tokens, each to the device that
pays the duty, and the credits of what the other devices owe. Then the run of the whole program from any memory: it
terminates, the argument arrays end as they were, the result array holds what the kernel computes, every counter is zero.
-/
module

public import proofs.«01_k».proof.Proof.Ends
public import Idealize.ShloMosaic.Lib.Pipeline.CollectiveSegs
public import Idealize.ShloMosaic.Lib.Quiescent

@[expose] public section

noncomputable section

namespace Cert.Attn

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

section Launch

variable (c : Dev nD)

/-! ## The kernel's own semaphores -/

/-- The semaphores of the six arrays. -/
abbrev osem (x : Fin 6 × Fin 8) : SemLoc sig := csem (some x)

set_option maxRecDepth 100000 in
/-- The kernel's own semaphores are none of the pipeline's. -/
theorem ownSemFacts : Pipeline.OwnSemFacts cfg0.spec osem where
  isScoped := by decide
  inj := fun x y h => Option.some_injective _ (csem_inj h)
  disj := fun x w s h => by
    have h1 := congrArg kind h
    rw [kind_csem] at h1
    have h2 : ∀ (w : Fin cfg0.W) (s : Fin (cfg0.spec w).nbuf), kind (.dma ((cfg0.spec w).sem s)) = none := by decide
    rw [h2 w s] at h1
    cases h1

/-- The barrier semaphore is the one that outlives the kernel. -/
theorem unscopedSems0_eq : (unscopedSems0 c : sProp 𝕄) = semVal (cell c none) 0 := by
  unfold unscopedSems0; rw [bigSep_eq_bigSepL_of_eq [SemLoc.reg barS] (by decide) (by decide)]; rfl

/-- All the cells of a device at zero. -/
theorem sems0_eq : (iprop(Pipeline.ownSems0 (Ix := Unit) (Name := ℕ) (U := UU) (Lvl := ℕ) (Val := Elt F) (τ := τ) osem c ∗ unscopedSems0 c) : sProp 𝕄)
    = bigSep Finset.univ fun k : KI => semVal (cell c k) 0 := by
  rw [cells_option (fun k : KI => (semVal (cell c k) 0 : sProp 𝕄)), unscopedSems0_eq]; rfl

/-! ## The cells and the tokens, minted -/

/-- The cell of a device and kind. -/
def kcell (ck : Dev nD × KI) : GSem nD τ sig := cell ck.1 ck.2
/-- Different devices or kinds have different cells. -/
theorem kcell_inj : Function.Injective kcell := fun a b h => Prod.ext (cell_inj.mp h).1 (cell_inj.mp h).2
/-- The cells of all devices. -/
def allCells : Finset (GSem nD τ sig) := Finset.univ.map ⟨kcell, kcell_inj⟩

/-- A token: of the duty of device `p` at the barrier of device `d` or at its cell `(a, p)`. -/
def tokOf (x : Dev nD × Fin 8 × Option (Fin 6)) : GSem nD τ sig × ℕ × Fin 8 := (cell x.1 (x.2.2.map fun a => (a, x.2.1)), 0, x.2.1)
/-- Different duties have different tokens. -/
theorem tokOf_inj : Function.Injective tokOf := by
  rintro ⟨d, p, o⟩ ⟨d', p', o'⟩ h
  have h1 := cell_inj.mp (congrArg Prod.fst h)
  have h2 : p = p' := congrArg (fun x : GSem nD τ sig × ℕ × Fin 8 => x.2.2) h
  obtain ⟨h3, h4⟩ := h1
  have h3 : d = d' := h3
  subst h2 h3
  have h5 : o = o' := Option.map_injective (fun a b hab => congrArg Prod.fst hab) h4
  rw [h5]
/-- All tokens. -/
def allToks : Finset (GSem nD τ sig × ℕ × Fin 8) := Finset.univ.map ⟨tokOf, tokOf_inj⟩

/-- What the run is funded with. -/
def u₀ : UU := (initOf (Pipeline.cells cfgs cellOf_inj) (Pipeline.launchToks cfgs cellOf_inj), initOf allCells allToks)

/-- The tokens at device `d`'s cells that peer `p` pays, -/
def tokIn (d p : Dev nD) : sProp 𝕄 :=
  iprop(dutyTok ER (cell d none) 0 p ∗ dutyTok ER (cell d (some (1, p))) 0 p ∗ dutyTok ER (cell d (some (3, p))) 0 p ∗ dutyTok ER (cell d (some (5, p))) 0 p)
/-- and those that the device pays itself, of its sends to peer `p`. -/
def tokOut (d p : Dev nD) : sProp 𝕄 :=
  iprop(dutyTok ER (cell d (some (0, p))) 0 p ∗ dutyTok ER (cell d (some (2, p))) 0 p ∗ dutyTok ER (cell d (some (4, p))) 0 p)

/-- The tokens at the cells of device `d`. -/
def toks (d : Dev nD) : sProp 𝕄 := iprop((bigSep (Finset.univ.erase d) fun p => tokIn d p) ∗ bigSep (Finset.univ.erase d) fun p => tokOut d p)

/-- The tokens, dealt out to the devices. -/
theorem toks_split : (bigSep allToks fun x => (dutyTok ER x.1 x.2.1 x.2.2 : sProp 𝕄)) ⊢ bigSep Finset.univ fun d : Dev nD => toks d := by
  unfold allToks
  rw [bigSep_map, bigSep_univ_prod]
  refine bigSep_mono fun d _ => ?_
  rw [bigSep_univ_prod]
  refine (bigSep_subset (Finset.erase_subset d Finset.univ)).trans ?_
  unfold toks
  rw [← bigSep_sep']
  refine bigSep_mono fun p _ => ?_
  refine (Entails.of_eq (bigSep_univ_eq_bigSepL [none, some 0, some 1, some 2, some 3, some 4, some 5] (by decide) (by decide) _)).trans ?_
  show (iprop(dutyTok ER (cell d none) 0 p ∗ dutyTok ER (cell d (some (0, p))) 0 p ∗ dutyTok ER (cell d (some (1, p))) 0 p ∗ dutyTok ER (cell d (some (2, p))) 0 p
    ∗ dutyTok ER (cell d (some (3, p))) 0 p ∗ dutyTok ER (cell d (some (4, p))) 0 p ∗ dutyTok ER (cell d (some (5, p))) 0 p) : sProp 𝕄) ⊢ iprop(tokIn d p ∗ tokOut d p)
  unfold tokIn tokOut
  iintro ⟨HN, H0, H1, H2, H3, H4, H5⟩
  iframe

/-- Each token to the device that pays with it. -/
theorem toks_deal : (bigSep Finset.univ fun d : Dev nD => (toks d : sProp 𝕄)) ⊢ bigSep Finset.univ fun d : Dev nD => bigSep (Finset.univ.erase d) fun p => payToks d p := by
  unfold toks
  rw [bigSep_sep', bigSep_erase_comm (fun d p : Dev nD => (tokIn d p : sProp 𝕄)), ← bigSep_sep']
  refine bigSep_mono fun d _ => ?_
  rw [← bigSep_sep']
  refine bigSep_mono fun p _ => ?_
  show (iprop(tokIn p d ∗ tokOut d p) : sProp 𝕄) ⊢ payToks d p
  unfold tokIn tokOut payToks
  iintro ⟨⟨H1, H2, H3, H4⟩, H5, H6, H7⟩
  iframe

/-- What the launch element deals device `c`: its cells' states, its positions and marks, the tokens at its cells. -/
def G : sProp 𝕄 :=
  iprop((bigSep Finset.univ fun k : KI => roundState ER (sched m ρ) (cell c k) 0)
    ∗ (bigSep Finset.univ fun k : KI => iprop(atPos ER (cell c k) 0 ∅ 0 ∗ reached ER (cell c k) 0)) ∗ toks c)

/-- What the devices make of it together: the records, the positions, and the tokens a device pays with. -/
def G' : sProp 𝕄 :=
  iprop((∃ K, records m ρ K) ∗ (bigSep Finset.univ fun k : KI => atPos ER (cell c k) 0 ∅ 0) ∗ bigSep (Finset.univ.erase c) fun p => payToks c p)

/-- The funds make every device's share. -/
theorem fund : BI.own (ER (initOf allCells allToks)) ⊢ (|==> bigSep Finset.univ (G m ρ) : sProp 𝕄) := by
  have hX (Φ : GSem nD τ sig → sProp (MT nD τ sig Unit (Elt F) ℕ UU ℕ)) :
      bigSep allCells Φ = bigSep Finset.univ fun d : Dev nD => bigSep Finset.univ fun k : KI => Φ (cell d k) := by
    unfold allCells; rw [bigSep_map, bigSep_univ_prod]; rfl
  iintro HX
  imod (Rounds.fund ER (sched m ρ) allCells allToks) $$ HX with ⟨Hst, Hr, Hat, Htok⟩
  imodintro
  ihave Hst := (Entails.of_eq (hX fun g => roundState ER (sched m ρ) g 0)) $$ Hst
  ihave Hat := (Entails.of_eq (hX fun g => atPos ER g 0 ∅ 0)) $$ Hat
  ihave Hr := (Entails.of_eq (hX fun g => reached ER g 0)) $$ Hr
  ihave Htok := (toks_split (F := F)) $$ Htok
  unfold G; simp only [bigSep_sep']
  iframe

/-- One device's counters at zero become its cells' invariants. -/
theorem alloc1 : iprop(Pipeline.ownSems0 (Ix := Unit) (Name := ℕ) (U := UU) (Lvl := ℕ) (Val := Elt F) (τ := τ) osem c ∗ unscopedSems0 c ∗ G m ρ c)
      ⊢ (|={Set.univ}=> iprop((bigSep Finset.univ fun k : KI => iprop(∃ κ : ℕ, cellInv ER (sched m ρ) κ (cell c k)))
          ∗ (bigSep Finset.univ fun k : KI => iprop(atPos ER (cell c k) 0 ∅ 0 ∗ reached ER (cell c k) 0)) ∗ toks c) : sProp 𝕄) := by
  unfold G
  iintro ⟨Hos, Hus, Hst, Hat, Htok⟩
  ihave Hv := (Entails.of_eq (sems0_eq (F := F) c)) $$ [Hos Hus]
  · iframe
  imod (show (iprop((bigSep Finset.univ fun k : KI => semVal (cell c k) 0) ∗ bigSep Finset.univ fun k : KI => roundState ER (sched m ρ) (cell c k) 0) : sProp 𝕄)
      ⊢ (|={Set.univ}=> bigSep Finset.univ fun k : KI => iprop(∃ κ : ℕ, cellInv ER (sched m ρ) κ (cell c k)) : sProp 𝕄) from by
        rw [← bigSep_sep']
        exact (bigSep_mono fun k _ => (Rounds.body_intro ER (sched m ρ) (cell c k)).trans inv_alloc).trans (bigSep_fupd _ _)) $$ [Hv Hst] with Hinv
  · iframe
  imodintro
  iframe

/-- A persistent resource goes to every device. -/
theorem share_out {R : sProp (MT nD τ sig Unit (Elt F) ℕ UU ℕ)} [BI.Persistent R] {Φ Ψ : Dev nD → sProp (MT nD τ sig Unit (Elt F) ℕ UU ℕ)}
    (h : ∀ d, iprop(R ∗ Φ d) ⊢ Ψ d) : iprop(R ∗ bigSep Finset.univ Φ) ⊢ bigSep Finset.univ Ψ :=
  (sep_mono_left (BI.bigSep_of_persistent Finset.univ R)).trans (by rw [← bigSep_sep']; exact bigSep_mono fun d _ => h d)

/-- With every cell's record, each device's share is what its body starts from. -/
theorem hand (K : Dev nD × KI → ℕ) :
    iprop(records m ρ K ∗ (bigSep Finset.univ fun k : KI => atPos ER (cell c k) 0 ∅ 0) ∗ bigSep (Finset.univ.erase c) fun p => payToks c p) ⊢ (G' m ρ c : sProp 𝕄) := by
  unfold G'
  iintro ⟨#HR, H⟩
  isplitr
  · iexists K; iexact HR
  · iexact H

/-- Every device's fresh invariants, positions and tokens, regrouped: one common record of all cells, and each device's share. -/
theorem regroup :
    (bigSep Finset.univ fun d : Dev nD => iprop((bigSep Finset.univ fun k : KI => iprop(∃ κ : ℕ, cellInv ER (sched m ρ) κ (cell d k)))
          ∗ (bigSep Finset.univ fun k : KI => iprop(atPos ER (cell d k) 0 ∅ 0 ∗ reached ER (cell d k) 0)) ∗ toks d) : sProp 𝕄)
      ⊢ bigSep Finset.univ (G' m ρ) := by
  rw [bigSep_sep', bigSep_sep', ← bigSep_univ_prod (fun ck : Dev nD × KI => (iprop(∃ κ : ℕ, cellInv ER (sched m ρ) κ (cell ck.1 ck.2)) : sProp 𝕄)),
    bigSep_congr (s := Finset.univ) (fun (d : Dev nD) _ => bigSep_sep' Finset.univ (fun k : KI => (atPos ER (cell d k) 0 ∅ 0 : sProp 𝕄)) (fun k => reached ER (cell d k) 0)),
    bigSep_sep', ← bigSep_univ_prod (fun ck : Dev nD × KI => (reached ER (cell ck.1 ck.2) 0 : sProp 𝕄))]
  iintro ⟨HI, ⟨Hat, #HR⟩, Htok⟩
  ihave HK := (BI.bigSep_exists_pi Finset.univ (fun (ck : Dev nD × KI) (κ : ℕ) => (cellInv ER (sched m ρ) κ (cell ck.1 ck.2) : sProp 𝕄))) $$ HI
  icases HK with ⟨%K, #HI⟩
  ihave Htk := (toks_deal (F := F)) $$ Htok
  iapply (share_out (R := records m ρ K) fun d => hand m ρ d K)
  isplitr
  · unfold records; isplitl; · iexact HI
    iexact HR
  · rw [bigSep_sep']
    iframe

/-- All devices together reach their starts. -/
theorem glob : (bigSep Finset.univ fun d => iprop(Pipeline.ownSems0 (Ix := Unit) (Name := ℕ) (U := UU) (Lvl := ℕ) (Val := Elt F) (τ := τ) osem d ∗ unscopedSems0 d ∗ G m ρ d) : sProp 𝕄)
    ⊢ |={Set.univ}=> bigSep Finset.univ (G' m ρ) :=
  ((bigSep_mono fun d _ => alloc1 m ρ d).trans (bigSep_fupd _ _)).trans (BI.fupd_mono (regroup m ρ))

/-! ## The credits -/

/-- What a list of debts owes a cell. -/
abbrev owedBy (l : List Debt) (g : GSem nD τ sig) : ℕ := (l.map fun e => if g = e.1 then e.2 else 0).sum

/-- Debts of two lists add up. -/
theorem owed_app (l l' : List Debt) (g : GSem nD τ sig) : owedBy (l ++ l') g = owedBy l g + owedBy l' g := by
  unfold owedBy; rw [List.map_append, List.sum_append]

/-- Among the places up the ring, one is a given peer, none the device itself. -/
theorem ups_sum (d e : Dev nD) (A : ℕ) : (([1, 2, 3, 4, 5, 6, 7] : List ℕ).map fun j => if e = up d j then A else 0).sum = if e = d then 0 else A := by
  have h : ∀ d e : Dev nD, (([1, 2, 3, 4, 5, 6, 7] : List ℕ).map fun j => if e = up d j then 1 else 0).sum = if e = d then 0 else 1 := by decide
  have h' := congrArg (· * A) (h d e)
  simp only [← List.sum_map_mul_right, ite_mul, one_mul, zero_mul] at h'
  exact h'

/-- What the barrier signals of a device owe a cell, -/
theorem owed_bar (d : Dev nD) (k : KI) :
    owedBy (barDebts d [1, 2, 3, 4, 5, 6, 7]) (cell c k) = if k = none then (if c = d then 0 else 1) else 0 := by
  unfold owedBy barDebts
  rw [List.map_map]
  split
  · rename_i h; subst h
    rw [← ups_sum d c 1]
    exact congrArg List.sum (List.map_congr_left fun j _ => if_congr ⟨fun h => (cell_inj.mp h).1, fun h => by rw [h]⟩ rfl rfl)
  · rename_i h
    exact List.sum_eq_zero fun x hx => by
      obtain ⟨j, -, rfl⟩ := List.mem_map.mp hx
      exact if_neg fun h' => h (cell_inj.mp h').2

/-- what the quotient's copies owe it, -/
theorem owed_ag (d : Dev nD) (k : KI) :
    owedBy (agDebts d [1, 2, 3, 4, 5, 6, 7]) (cell c k) = if k = some (5, d) then (if c = d then 0 else amtOf 5) else 0 := by
  unfold owedBy agDebts
  rw [List.map_map]
  split
  · rename_i h; subst h
    rw [← ups_sum d c (amtOf 5)]
    exact congrArg List.sum (List.map_congr_left fun j _ => if_congr ⟨fun h => (cell_inj.mp h).1, fun h => by rw [h]⟩ rfl rfl)
  · rename_i h
    exact List.sum_eq_zero fun x hx => by
      obtain ⟨j, -, rfl⟩ := List.mem_map.mp hx
      exact if_neg fun h' => h (cell_inj.mp h').2

/-- what the heads' copies owe it, -/
theorem owed_heads (d : Dev nD) (k : KI) (hs : List (Fin 8)) (hn : hs.Nodup) :
    owedBy (headDebts d hs) (cell c k)
      = if c ∈ hs ∧ c ≠ d then (if k = some (1, d) then amtOf 1 else 0) + (if k = some (3, d) then amtOf 3 else 0) else 0 := by
  induction hs with
  | nil => simp [owedBy, headDebts]
  | cons h hs ih =>
    have e : headDebts d (h :: hs) = (if h = d then [] else [(cell h (some (1, d)), amtOf 1), (cell h (some (3, d)), amtOf 3)]) ++ headDebts d hs := by
      unfold headDebts; rw [List.flatMap_cons]
    rw [e, owed_app, ih (List.nodup_cons.mp hn).2]
    have hni := (List.nodup_cons.mp hn).1
    by_cases hd : h = d
    · subst hd
      by_cases hc : c = h
      · subst hc; simp [owedBy]
      · simp [owedBy, hc]
    · rw [if_neg hd]
      by_cases hc : c = h
      · subst hc
        have h1 : ∀ k', (cell c k = cell c k') ↔ k = k' := fun k' => ⟨fun h => (cell_inj.mp h).2, fun h => by rw [h]⟩
        simp [owedBy, hni, hd, csem_inj.eq_iff]
      · have h1 : ∀ k', (cell c k = cell h k') ↔ False := fun k' => ⟨fun h => hc (cell_inj.mp h).1, False.elim⟩
        simp only [owedBy, List.map_cons, List.map_nil, h1, if_false, List.sum_cons, List.sum_nil, Nat.zero_add, Nat.add_zero, List.mem_cons, hc, false_or]

/-- and all of them together. -/
theorem owed_debts (d : Dev nD) (k : KI) : O₀ d (cell c k) ()
    = if c = d then 0 else (if k = none then 1 else 0) + ((if k = some (1, d) then amtOf 1 else 0) + (if k = some (3, d) then amtOf 3 else 0) + (if k = some (5, d) then amtOf 5 else 0)) := by
  show tally (debts d) (cell c k) () = _
  rw [tally_apply]
  show owedBy (debts d) (cell c k) = _
  unfold debts
  rw [owed_app, owed_app, owed_bar, owed_ag, owed_heads c d k _ (by decide)]
  have hm : c ∈ ([0, 1, 2, 3, 4, 5, 6, 7] : List (Fin 8)) := by revert c; decide
  by_cases h : c = d
  · simp [h]
  · simp [h, hm]

/-- What all devices owe a cell is the cell's launch credit. -/
theorem launch_due (k : KI) (A : ℕ) (h : ∑ d : Dev nD, O₀ d (cell c k) () = A) :
    tallyOn (cell c k) (launchCredit (Pipeline.owing O₀) 0 (cell c k)) = (tallyAt (cell c k) () A : CellTallies nD τ sig Unit) := by
  unfold tallyAt; refine congrArg _ (Finsupp.ext fun u => ?_); cases u
  rw [Pipeline.launchCredit_owing, Finsupp.single_eq_same, h]

/-- A barrier is owed seven units, -/
theorem due_bar : ∑ d : Dev nD, O₀ d (cell c none) () = 7 := by
  rw [Finset.sum_congr rfl fun d _ => owed_debts c d none]
  simp only [if_true, reduceCtorEq, if_false, Nat.add_zero]
  revert c; decide

/-- and a cell at which something arrives one block. -/
theorem due_arr (a : Fin 6) (ha : a = 1 ∨ a = 3 ∨ a = 5) {p : Dev nD} (hp : p ∈ Finset.univ.erase c) : ∑ d : Dev nD, O₀ d (cell c (some (a, p))) () = amtOf a := by
  have hpc := Finset.ne_of_mem_erase hp
  rw [Finset.sum_eq_single p]
  · rw [owed_debts, if_neg (Ne.symm hpc)]
    rcases ha with rfl | rfl | rfl <;> simp
  · intro d _ hd
    rw [owed_debts]
    simp [Ne.symm hd]
  · intro h; exact absurd (Finset.mem_univ p) h

/-- The credits dealt at launch: the seven units of the barrier, and what each peer sends. -/
theorem creds : (Pipeline.launchCred O₀ c : sProp 𝕄) ⊢ iprop(cred (tallyAt (cell c none) () 7) ∗ bigSep (Finset.univ.erase c) fun p => peerCred c p) := by
  unfold Pipeline.launchCred
  refine (bigSep_subset (Finset.subset_univ (Finset.univ.map ⟨csem, csem_inj⟩))).trans ?_
  rw [bigSep_map]
  refine (Entails.of_eq (cells_split c (fun k : KI => (cred (tallyOn (cell c k) (launchCredit (Pipeline.owing O₀) 0 (cell c k))) : sProp 𝕄)))).trans ?_
  have hp (a : Fin 6) (ha : a = 1 ∨ a = 3 ∨ a = 5) :
      (bigSep (Finset.univ.erase c) fun p => (cred (tallyOn (cell c (some (a, p))) (launchCredit (Pipeline.owing O₀) 0 (cell c (some (a, p))))) : sProp 𝕄))
        = bigSep (Finset.univ.erase c) fun p => cred (tallyAt (cell c (some (a, p))) () (amtOf a)) :=
    bigSep_congr fun p hp => by rw [launch_due c _ _ (due_arr c a ha hp)]
  rw [launch_due c none 7 (due_bar c), hp 1 (by decide), hp 3 (by decide), hp 5 (by decide)]
  unfold peerCred
  rw [bigSep_sep', bigSep_sep']
  iintro ⟨HN, -, -, H1, -, H3, -, H5⟩
  iframe

/-! ## The side conditions of the launch theorem -/

/-- Every window is held in full. -/
theorem share_eq (w : Fin cfg0.W) : (dats m ρ 0 c).share w = fullShare := by unfold Dat.share; split <;> rfl

/-- The starts, with the levels, are what each body begins with. -/
theorem start_intro :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ (|={Set.univ}=> iprop(start m ρ c ∗ emp) : sProp 𝕄) := by
  iintro ⟨-, Hlev, Hcr, -, HG⟩
  ihave Hc := (creds (F := F) c) $$ Hcr
  icases Hc with ⟨H1, HN⟩
  imodintro
  unfold start G'
  icases HG with ⟨HK, Hat, Ht⟩
  isplitl
  · iframe
  · iempintro

/-- A whole buffer at some contents, in its two spellings. -/
theorem any_of_buf (b : Ref sig .tc) : (iprop(∃ f : Buf (Elt F) ((c : Thread nD τ).loc b), ((c : Thread nD τ).loc b) ↦{fullShare} f) : sProp 𝕄)
    = ownsSat (c : Thread nD τ) (Memref.whole b) fullShare (fun _ => True) := by
  have h1 : (iprop(∃ f : Buf (Elt F) ((c : Thread nD τ).loc b), ((c : Thread nD τ).loc b) ↦{fullShare} f) : sProp 𝕄)
      ⊢ ownsSat (c : Thread nD τ) (Memref.whole b) fullShare (fun _ => True) := by
    iintro ⟨%f, H⟩
    iapply (ownsSat_intro (c : Thread nD τ) (Memref.whole b) fullShare (Φ := fun _ => True) (X := f) trivial)
    rw [owns_whole_eq]
    iexists f; isplitr; · (ipureintro; rfl)
    iexact H
  have h2 : (ownsSat (c : Thread nD τ) (Memref.whole b) fullShare (fun _ => True) : sProp 𝕄)
      ⊢ iprop(∃ f : Buf (Elt F) ((c : Thread nD τ).loc b), ((c : Thread nD τ).loc b) ↦{fullShare} f) := by
    refine (ownsSat_any (c : Thread nD τ) _ _).trans ?_
    iintro ⟨%X, H⟩
    ihave H := (Entails.of_eq (owns_whole_eq (c : Thread nD τ) b fullShare X)) $$ H
    icases H with ⟨%f, -, H⟩
    iexists f; iexact H
  exact Entails.antisymm h1 h2

/-- The scratch buffers are the buffers the launch allocates besides the staging buffers. -/
theorem scratch_eq : (Pipeline.scopedRest (Ix := Unit) (Name := ℕ) (U := UU) (Lvl := ℕ) (Val := Elt F) spec0 c : sProp 𝕄) = scratch c := by
  rw [scopedRest0_eq]
  unfold scratch
  rw [any_of_buf c cc0_scratch0, any_of_buf c cc0_scratch1, any_of_buf c cc0_scratch2, any_of_buf c cc0_scratch3, any_of_buf c cc0_scratch4]
  rfl

/-- What a device is given makes what it has before its one grid point, -/
theorem phi0_intro :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, show (Pipeline.scopedRest cfg0.spec c : sProp 𝕄) = scratch c from scratch_eq c]
  unfold Φ₀
  iintro ⟨Hs, -, Hr⟩
  iframe

/-- and what it has after it makes what it gives back. -/
theorem phi1_exit :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, show (Pipeline.scopedRest cfg0.spec c : sProp 𝕄) = scratch c from scratch_eq c]
  unfold Φ₁
  rw [← sems0_eq]
  iintro ⟨Hr, Ho, Hu⟩
  iframe

/-- The pipeline's own waits are allowed. -/
theorem waits : (levAts L lv : sProp 𝕄) ⊢ Pipeline.cellsWaits cfgs (dats m ρ) () 0 c :=
  Pipeline.cellsWaits_intro cfgs (dats m ρ) () 0 c fun w s t => by
    have h0 : ∀ (w : Fin cfg0.W) (s : Fin (cfg0.win w).nbuf), lvk (kind (.dma ((cfg0.win w).sem s))) = 0 := by decide
    rcases t with ⟨_ | _, ht⟩
    · exact mayWait_of c _ (debts c) fun e he => ⟨(debts_lv c e he).1, (h0 w s).symm ▸ (debts_lv c e he).2⟩
    · exact mayWait_of c _ [] fun e he => by cases he

/-! ## The run -/

/-- The window's array at the end. -/
def finalA (w : Fin cfg0.W) : Buf (Elt F) ((cfg0.win w).arr.view.loc (c : Thread nD τ)) := (dats m ρ 0 c).arrAt w cfg0.N

end Launch

set_option maxRecDepth 8000 in
/-- From any memory with zero counters every weakly fair execution of the program on the eight devices terminates; every
    final state has each window's array at its computed contents and every semaphore counter at zero. -/
theorem run_main [∀ e, Nonempty (Elt F e)] : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Attn
end
-- ==== Proof.Bridge.lean ====
/-
# The printed kernel and the idealized one

The idealized kernel differs from the printed one in a single place: it names the constant `1/√128` where the printed
kernel has a literal. Reading the name as that literal makes the two programs the same.
-/
module

public import proofs.«01_k».proof.Defs
public import proofs.«01_k».proof.Proof.Gen.Kernel
public import proofs.«01_k».proof.Proof.Gen.KernelIdeal

@[expose] public section

set_option maxRecDepth 100000

namespace Cert.Bridge
open Idealize.ShloMosaic Idealize.SL.Sem

/-- At the machine's values a named constant is its printed literal. -/
@[reducible] def litNamed (F : FTy → Type) [FloatOps F] : Named F where
  named _ _ {φ} bits := FloatOps.ofBits φ bits
/-- The two main programs agree, -/
theorem main_eq {F : FTy → Type} [FloatOps F] : letI := litNamed F; (Cert.Kernel.main (F := F)) = Cert.KernelIdeal.main (F := F) := rfl

/-- the two kernel bodies agree, -/
theorem body_eq {F : FTy → Type} [FloatOps F] : letI := litNamed F; (@Cert.Kernel.cc0_body F _ _) = (Cert.KernelIdeal.cc0_body (F := F)) := rfl
/-- the definitions of the kernels agree, -/
theorem defs₀_eq {F : FTy → Type} [FloatOps F] : letI := litNamed F; (Cert.Kernel.defs₀ (F := F)) = Cert.KernelIdeal.defs₀ (F := F) := by
  unfold Cert.Kernel.defs₀ Cert.KernelIdeal.defs₀
  congr 1
  funext b a
  match b, a with
  | ⟨0, _⟩, (t, s) => rfl
/-- and so do the definitions with the pipeline's loops. -/
theorem defs_eq {F : FTy → Type} [FloatOps F] : letI := litNamed F; (Cert.Kernel.defs (F := F)) = Cert.KernelIdeal.defs (F := F) := by
  letI := litNamed F
  show Pipeline.defs Cert.Kernel.pcfgs Cert.Kernel.defs₀ = Pipeline.defs Cert.KernelIdeal.pcfgs Cert.KernelIdeal.defs₀
  exact congrArg (Pipeline.defs Cert.KernelIdeal.pcfgs) defs₀_eq

end Cert.Bridge

end
-- ==== Proof.Frames.lean ====
/-
# The frames of the two kernels

Each kernel terminates from any memory, leaves its five arguments as they were, and ends with every counter at zero. The
idealized kernel's run also gives its result array. The printed kernel's run is the idealized kernel's, read with the
named constant as its literal.
-/
module

public import proofs.«01_k».proof.Proof.Launch
public import proofs.«01_k».proof.Proof.Bridge
public import Idealize.ShloMosaic.Lib.StableHlo.RunHlo

@[expose] public section

noncomputable section

namespace Cert.Attn

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- The argument arrays end as they were, the result array holds the computed contents, and every counter is zero. -/
theorem run_args : θ_run defs (onTc (τ := τ) (main (F := F))) (s₀ m ρ)
    (fun r => (∀ c : Dev nD, r.2.mem (c.tc.loc main_v1) = finalA m ρ c (5 : Fin 6)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4))
      ∧ r.2.sem = fun _ => 0) := by
  refine θ_run_mono (run_main m ρ) fun r h => ⟨fun c => ?_, h.2⟩
  have hin (w : Fin 6) (hw : (cfg0.win w).isOut = false) := ((h.1 c w).trans ((dats (F := F) m ρ 0 c).arrAt_in w hw _))
  exact ⟨h.1 c 5, hin 0 rfl, hin 1 rfl, hin 2 rfl, hin 3 rfl, hin 4 rfl⟩

end Cert.Attn

namespace Cert.Proof

open Idealize.ShloMosaic Idealize.SL.Sem

/-- The idealized kernel runs, keeps its arguments, and leaves every counter at zero. -/
theorem frame_pi : Cert.quiescent_KernelIdeal (hKernelIdeal := Cert.KernelIdeal.Gen.facts) := fun m g _ =>
  θ_run_mono (Cert.Attn.run_args (F := Ideal) m g) fun _ h => ⟨fun c => (h.1 c).2, h.2⟩

/-- So does the printed kernel. -/
theorem frame_p : Cert.quiescent_Kernel (hKernel := Cert.Kernel.Gen.facts) := fun m g _ => by
  letI := Cert.Bridge.litNamed Bits
  have h := Cert.Attn.run_args (F := Bits) m g
  rw [← Cert.Bridge.defs_eq, ← Cert.Bridge.main_eq] at h
  exact θ_run_mono h fun _ h => ⟨fun c => (h.1 c).2, h.2⟩

/-- The named constant is the one its literal stands for. -/
theorem preserves : Cert.preserves_Kernel_KernelIdeal :=
  IdealRules.named_const.statement Cert.KernelIdeal.κ "inv_sqrt_dh" .bf16 0x3DB5#16 _ rfl

end Cert.Proof
end
-- ==== Proof.Staged.lean ====
/-
# What the staged blocks and the result array hold

Each operand's one block is the whole array, so the kernel's staged copy of an argument is that argument, and the result
array ends as the block the kernel wrote.
-/
module

public import proofs.«01_k».proof.Proof.Launch
public import Idealize.ShloMosaic.Lib.Pointwise
public import Idealize.ShloMosaic.Lib.Pipeline.ValueKit

@[expose] public section

noncomputable section

namespace Cert.Attn

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- The one block of each operand, read, is the operand's array. -/
theorem xs_eq (c : Dev nD) : xs m ρ c = m (c.tc.loc main_arg0) :=
  Memref.read_access_unit_zero (Elt F) main_arg0 (funext fun a => by fin_cases a <;> rfl) (fun a => by fin_cases a <;> decide) _

theorem wqs_eq (c : Dev nD) : wqs m ρ c = m (c.tc.loc main_arg1) :=
  Memref.read_access_unit_zero (Elt F) main_arg1 (funext fun a => by fin_cases a <;> rfl) (fun a => by fin_cases a <;> decide) _

theorem wos_eq (c : Dev nD) : wos m ρ c = m (c.tc.loc main_arg2) :=
  Memref.read_access_unit_zero (Elt F) main_arg2 (funext fun a => by fin_cases a <;> rfl) (fun a => by fin_cases a <;> decide) _

theorem ks_eq (c : Dev nD) : ks m ρ c = m (c.tc.loc main_arg3) :=
  Memref.read_access_unit_zero (Elt F) main_arg3 (funext fun a => by fin_cases a <;> rfl) (fun a => by fin_cases a <;> decide) _

theorem vs_eq (c : Dev nD) : vs m ρ c = m (c.tc.loc main_arg4) :=
  Memref.read_access_unit_zero (Elt F) main_arg4 (funext fun a => by fin_cases a <;> rfl) (fun a => by fin_cases a <;> decide) _

/-- Head `h`'s rows of the output projection, at an index. -/
theorem woRows_at (c : Dev nD) (h : Fin 8) (e : Fin 128) (n : Fin 1024) :
    woRows m ρ c h (ix2 e n) = m (c.tc.loc main_arg2) (ix2 ⟨128 * h.val + e.val, by omega⟩ n) := by
  rw [← wos_eq m ρ c]
  unfold woRows
  rw [View.readAt_apply, View.read_whole]
  exact congrArg (wos m ρ c) (by ext a; fin_cases a <;> simp [Rect.unit, ix2])

/-- The result array ends as the block that was written. -/
theorem finalA_out (c : Dev nD) : finalA m ρ c (5 : Fin 6) = outc m ρ c := by
  unfold finalA
  refine (dats m ρ 0 c).arrAt_eq_of_covers (5 : Fin 6) (outc m ρ c) (by decide +kernel) fun t hf y => ?_
  blk_simp
  refine congrArg (outc m ρ c) (funext fun a => Fin.ext ?_)
  show (y a : ℕ) = ((win0_5.blk t).view.emb y a : ℕ)
  blk_simp
  rw [show win0_5.index t a = 0 from rfl]
  omega

end Cert.Attn

end
-- ==== Proof.Softmax.lean ====
/-
# Softmax on the extended reals

Dividing a weighted sum of exponentials by their sum gives the same when every exponent is first lowered by the largest
one. The reference lowers, the kernel does not. Nothing is assumed of the scores or the weights: where the largest score
is infinite the reference lowers by nothing, or all exponentials are zero already.
-/
module

public import Idealize.ShloMosaic.Lib.Pointwise

@[expose] public section

noncomputable section

namespace Cert.Softmax

open Idealize.ShloMosaic

/-- A nonnegative real factor moves into a finite sum. -/
theorem coe_mul_sum {ι : Type*} (s : Finset ι) (a : ℝ) (ha : 0 ≤ a) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi, EReal.left_distrib_of_nonneg_of_ne_top (by exact_mod_cast ha) (EReal.coe_ne_top a), ih]

/-- A positive real factor common to both sides of a quotient cancels. -/
theorem div_mul_left (a : ℝ) (ha : 0 < a) (x y : EReal) :
    Ideal.div ((a : EReal) * x) ((a : EReal) * y) = Ideal.div x y := by
  have ha' : (0 : EReal) < (a : EReal) := by exact_mod_cast ha
  unfold Ideal.div
  by_cases hy : y = 0
  · subst hy
    have hx : 0 < (a : EReal) * x ↔ 0 < x := by
      constructor
      · intro h
        by_contra hx
        exact absurd h (not_lt.mpr (mul_nonpos_of_nonneg_of_nonpos ha'.le (not_lt.mp hx)))
      · exact fun h => EReal.mul_pos ha' h
    simp only [mul_zero, if_true, hx]
  · have hay : (a : EReal) * y ≠ 0 := mul_ne_zero ha'.ne' hy
    rw [if_neg hay, if_neg hy, EReal.mul_inv]
    have h1 : (a : EReal) * (a : EReal)⁻¹ = 1 := by
      rw [← EReal.coe_inv, ← EReal.coe_mul, mul_inv_cancel₀ ha.ne', EReal.coe_one]
    calc (a : EReal) * x * ((a : EReal)⁻¹ * y⁻¹) = ((a : EReal) * (a : EReal)⁻¹) * (x * y⁻¹) := by
          rw [mul_assoc, mul_assoc, mul_left_comm x]
      _ = x * y⁻¹ := by rw [h1, one_mul]

/-- Lowering an exponent by a real scales the exponential. -/
theorem exp_sub_coe (s : EReal) (r : ℝ) : Ideal.exp (s - (r : EReal)) = ((Real.exp (-r) : ℝ) : EReal) * Ideal.exp s := by
  induction s with
  | bot => simp
  | top => rw [EReal.top_sub_coe, Ideal.exp_top, EReal.coe_mul_top_of_pos (Real.exp_pos _)]
  | coe s => rw [← EReal.coe_sub, Ideal.exp_coe, Ideal.exp_coe, ← EReal.coe_mul, ← Real.exp_add]; congr 2; ring

/-- The largest of finitely many scores. -/
theorem le_fold_max {n : ℕ} (S : Fin n → EReal) (j : Fin n) : S j ≤ Finset.univ.fold max ⊥ S :=
  (Finset.le_fold_max _).mpr (Or.inr ⟨j, Finset.mem_univ j, le_rfl⟩)

/-- Softmax with the largest score taken off, unless that is `+∞`, is softmax without. -/
theorem softmax_eq {n : ℕ} (S V : Fin n → EReal) (M : EReal) (hM : ∀ j, S j ≤ M) :
    Ideal.div (∑ j, V j * Ideal.exp (S j - if M = ⊤ then 0 else M)) (∑ j, Ideal.exp (S j - if M = ⊤ then 0 else M))
      = Ideal.div (∑ j, V j * Ideal.exp (S j)) (∑ j, Ideal.exp (S j)) := by
  induction M with
  | top => simp
  | bot =>
    have h : ∀ j, S j = ⊥ := fun j => le_bot_iff.mp (hM j)
    simp [h]
  | coe r =>
    simp only [EReal.coe_ne_top, if_false, exp_sub_coe]
    rw [← coe_mul_sum _ _ (Real.exp_pos _).le]
    rw [Finset.sum_congr rfl fun j _ => mul_left_comm (V j) _ (Ideal.exp (S j)), ← coe_mul_sum _ _ (Real.exp_pos _).le]
    exact div_mul_left _ (Real.exp_pos _) _ _

/-- A score scaled by `1/√128` before its sums is the score divided by `√128` after them. -/
theorem score_eq {n k : ℕ} (X : Fin k → EReal) (W : Fin k → Fin n → EReal) (K : Fin n → EReal) :
    ∑ d, K d * ∑ e, X e * (((Real.sqrt 128)⁻¹ : ℝ) : EReal) * W e d
      = Ideal.div (∑ d, (∑ e, X e * W e d) * K d) ((Real.sqrt 128 : ℝ) : EReal) := by
  have h128 : 0 < Real.sqrt 128 := Real.sqrt_pos.mpr (by norm_num)
  have hpos : 0 ≤ (Real.sqrt 128)⁻¹ := inv_nonneg.mpr h128.le
  rw [Ideal.div_coe h128.ne', mul_comm, one_div, coe_mul_sum _ _ hpos]
  refine Finset.sum_congr rfl fun d _ => ?_
  rw [← mul_assoc, coe_mul_sum _ _ hpos, mul_comm]
  congr 1
  refine Finset.sum_congr rfl fun e _ => ?_
  rw [mul_comm (X e), mul_assoc]

/-- A sum over the ring, starting anywhere, is the sum over all devices. -/
theorem sum_ring {A : Type*} [AddCommMonoid A] (f : Fin 8 → A) (c : Fin 8) : ∑ d : Fin 8, f (c + d) = ∑ h, f h :=
  Equiv.sum_comp (Equiv.addLeft c) f

/-- A sum over `a * b` places is a sum over `a` blocks of `b` places. -/
theorem sum_blocks {A : Type*} [AddCommMonoid A] (a b : ℕ) (f : Fin (a * b) → A) :
    ∑ x, f x = ∑ p : Fin a, ∑ q : Fin b, f (finProdFinEquiv (p, q)) := by
  rw [← Fintype.sum_prod_type' (f := fun p q => f (finProdFinEquiv (p, q))), Equiv.sum_comp finProdFinEquiv f]

/-- The words the reference spells `128`, `-∞` and `+∞` with. -/
theorem ofBits_128 : Ideal.ofBits FTy.f32 1124073472#32 = ((128 : ℝ) : EReal) := by
  simp [Ideal.ofBits, Ideal.ieee, -EReal.coe_mul]; norm_num

theorem ofBits_neg_inf : Ideal.ofBits FTy.f32 4286578688#32 = ⊥ := by
  simp [Ideal.ofBits, Ideal.ieee]

theorem ofBits_inf : Ideal.ofBits FTy.f32 2139095040#32 = ⊤ := by
  simp [Ideal.ofBits, Ideal.ieee]

end Cert.Softmax

namespace Cert.Attn

/-! ## Where the heads lie -/

/-- The column of the queries, and the row of the output projection, that place `d` of head `h` has; -/
def headCol (h : Fin 8) (d : Fin 128) : Fin 1024 := ⟨128 * h.val + d.val, by omega⟩
/-- the column of the keys and the values that head `h` reads there. -/
def keyCol (h : Fin 8) (d : Fin 128) : Fin 256 := ⟨128 * (h.val / 4) + d.val, by omega⟩
/-- The place among all keys of a device's own key `j`. -/
def keyRow (c : Fin 8) (j : Fin 2048) : Fin 16384 := ⟨c.val * 2048 + j.val, by omega⟩

/-- A sum over the 1024 columns, head by head, -/
theorem sum_heads {A : Type*} [AddCommMonoid A] (f : Fin 1024 → A) : ∑ x, f x = ∑ h, ∑ d, f (headCol h d) := by
  refine (Cert.Softmax.sum_blocks 8 128 f).trans (Finset.sum_congr rfl fun h _ => Finset.sum_congr rfl fun d _ => congrArg f ?_)
  apply Fin.ext
  show d.val + 128 * h.val = 128 * h.val + d.val
  omega

/-- and over all keys, device by device. -/
theorem sum_keys {A : Type*} [AddCommMonoid A] (f : Fin 16384 → A) : ∑ x, f x = ∑ c, ∑ j, f (keyRow c j) := by
  refine (Cert.Softmax.sum_blocks 8 2048 f).trans (Finset.sum_congr rfl fun c _ => Finset.sum_congr rfl fun j _ => congrArg f ?_)
  apply Fin.ext
  show j.val + 2048 * c.val = c.val * 2048 + j.val
  omega

/-- The columns by their numbers, -/
theorem headCol_mk (h : Fin 8) (d : Fin 128) (p) : (⟨h.val * 128 + d.val, p⟩ : Fin 1024) = headCol h d := by
  apply Fin.ext; simp only [headCol]; omega

theorem keyCol_mk (h : Fin 8) (d : Fin 128) (p) : (⟨h.val / 4 * 128 + d.val, p⟩ : Fin 256) = keyCol h d := by
  apply Fin.ext; simp only [keyCol]; omega

/-- and a column's head and place. -/
theorem headCol_div (h : Fin 8) (d : Fin 128) (p) : (⟨(headCol h d).val / 128, p⟩ : Fin 8) = h := by
  apply Fin.ext; simp only [headCol]; omega

theorem headCol_mod (h : Fin 8) (d : Fin 128) (p) : (⟨(headCol h d).val % 128, p⟩ : Fin 128) = d := by
  apply Fin.ext; simp only [headCol]; omega

end Cert.Attn

end
-- ==== Proof.KernelValue.lean ====
/-
# The kernel's result at an index

The numerators and denominators a device computes, the quotients a device forms from what it gathers, and the projected
sum it writes out, each as sums over the argument arrays.
-/
module

public import proofs.«01_k».proof.Proof.Staged
public import proofs.«01_k».proof.Proof.Softmax

@[expose] public section

noncomputable section

namespace Cert.Attn

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option maxRecDepth 16384

/-- The arguments at device `c` as matrices: the input, the two weights, and the device's keys and values. -/
def X (c : Dev nD) (i : Fin 512) (k : Fin 1024) : EReal := m (c.tc.loc main_arg0) (ix2 i k)
def Wq (c : Dev nD) (k e : Fin 1024) : EReal := m (c.tc.loc main_arg1) (ix2 k e)
def Wo (c : Dev nD) (e n : Fin 1024) : EReal := m (c.tc.loc main_arg2) (ix2 e n)
def Ks (c : Dev nD) (j : Fin 2048) (e : Fin 256) : EReal := m (c.tc.loc main_arg3) (ix2 j e)
def Vs (c : Dev nD) (j : Fin 2048) (e : Fin 256) : EReal := m (c.tc.loc main_arg4) (ix2 j e)

/-- The scaled queries, -/
def Q (c : Dev nD) (i : Fin 512) (e : Fin 1024) : EReal :=
  ∑ k : Fin 1024, X m c i k * (((Real.sqrt 128)⁻¹ : ℝ) : EReal) * Wq m c k e
/-- and the score of key `j` for head `h`. -/
def score (c : Dev nD) (h : Fin 8) (i : Fin 512) (j : Fin 2048) : EReal :=
  ∑ e : Fin 128, Ks m c j (keyCol h e) * Q m c i (headCol h e)

/-- The scaled queries the kernel computes, at an index. -/
theorem pay1_at (c : Dev nD) (i : Fin 512) (e : Fin 1024) : k0_pay1 (xs m ρ c) (wqs m ρ c) (ix2 i e) = Q m c i e := by
  rw [xs_eq, wqs_eq]
  pointwise [k0_pay1]
  rfl

/-- The numerators of head `h` over device `c`'s keys, -/
theorem Oc_at (c : Dev nD) (h : Fin 8) (u : Fin 1) (d : Fin 128) (i : Fin 512) : Oc m ρ c h (ix3 u d i)
    = ∑ j : Fin 2048, Vs m c j (keyCol h d) * Ideal.exp (score m c h i j) := by
  unfold score
  fin_cases h <;> dsimp only [Oc] <;>
    pointwise [k0_pay2, k0_pay3, k0_pay4, k0_pay6, k0_pay7, k0_pay9, k0_pay10, k0_pay12, k0_pay14, k0_pay15,
      k0_pay17, k0_pay18, k0_pay20, k0_pay21, k0_pay22, k0_pay24, k0_pay25, k0_pay27, k0_pay28, k0_pay30, k0_pay31, qv, kv, vv] <;>
    simp only [pay1_at, ks_eq, vs_eq] <;> simp [headCol, keyCol, Ks, Vs]

/-- and the denominators. -/
theorem Lc_at (c : Dev nD) (h : Fin 8) (u u' : Fin 1) (i : Fin 512) : Lc m ρ c h (ix3 u u' i)
    = ∑ j : Fin 2048, Ideal.exp (score m c h i j) := by
  unfold score
  fin_cases h <;> dsimp only [Lc] <;>
    pointwise [k0_pay2, k0_pay4, k0_pay5, k0_pay8, k0_pay9, k0_pay11, k0_pay12, k0_pay13, k0_pay16,
      k0_pay17, k0_pay19, k0_pay21, k0_pay23, k0_pay24, k0_pay26, k0_pay27, k0_pay29, k0_pay30, k0_pay32, qv, kv] <;>
    simp only [pay1_at, ks_eq] <;> simp [headCol, keyCol, Ks]

/-- The quotient device `c` forms for its own head, over all devices' keys in ring order. -/
theorem Ac_at (c : Dev nD) (u : Fin 1) (d : Fin 128) (i : Fin 512) : Ac m ρ c (ix3 u d i)
    = Ideal.div (∑ p : Fin 8, ∑ j : Fin 2048, Vs m (up c p) j (keyCol c d) * Ideal.exp (score m (up c p) c i j))
        (∑ p : Fin 8, ∑ j : Fin 2048, Ideal.exp (score m (up c p) c i j)) := by
  unfold Ac
  pointwise [k0_pay43, oSum6, oSum4, oSum3, oSum2, oSum1, lSum6, lSum4, lSum3, lSum2, lSum0, k0_pay33, k0_pay34, k0_pay35,
    k0_pay36, k0_pay37, k0_pay38, k0_pay39, k0_pay40, k0_pay41, k0_pay42]
  simp only [Oc_at, Lc_at, Fin.sum_univ_eight]
  rfl

/-- What device `c` writes out: every head's quotient, projected, in ring order. -/
theorem outc_at (c : Dev nD) (i : Fin 512) (n : Fin 1024) : outc m ρ c (ix2 i n)
    = ∑ p : Fin 8, ∑ e : Fin 128, Ac m ρ (up c p) (ix3 0 e i) * Wo m c (headCol (up c p) e) n := by
  unfold outc
  pointwise [k0_pay48, k0_pay47, k0_pay46, k0_pay45, k0_pay44, acc6, acc4, acc2, acc0]
  simp only [woRows_at, Fin.sum_univ_eight]
  rfl

end Cert.Attn

end
-- ==== Proof.RefValue.lean ====
/-
# The reference's result at an index

The reference's composed result, read at an index: for every head and place the softmax quotient over all keys, projected.
-/
module

public import proofs.«01_k».proof.Proof.Softmax
public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.Ref

open Cert.ReferenceIdeal Cert.ReferenceIdeal.Gen Cert.Attn
open Idealize.ShloMosaic Idealize.ShloMosaic.TcCoe

variable (m : (ℓ : Loc nD τ sig) → Buf (Elt Ideal) ℓ) (c : Dev nD)

/-! ## The reference's stages, as vectors -/

/-- The queries, split into heads; -/
def queries (x : FVec Ideal S512x1024 .bf16) (wq : FVec Ideal S1024x1024 .bf16) : FVec Ideal S512x8x128 .f32 :=
  shapeCast _ (extf .f32 (truncf .bf16 (Host.dotGeneral dot_S512x1024_S1024x1024_S512x1024_1_0_0_1_n_n none
    (extf .f32 x bitsLt_bf16_f32) (extf .f32 wq bitsLt_bf16_f32)) bitsLt_bf16_f32) bitsLt_bf16_f32) shapeCasts_S512x1024_S512x8x128
/-- the keys or the values, each repeated for the four heads that share it; -/
def repeated (k : FVec Ideal S16384x256 .bf16) : FVec Ideal S16384x8x128 .f32 :=
  shapeCast _ (broadcastInDim S16384x2x4x128 ![0, 1, 3] bcast_S16384x2x128_S16384x2x4x128_0_1_3
    (shapeCast _ (extf .f32 k bitsLt_bf16_f32) shapeCasts_S16384x256_S16384x2x128)) shapeCasts_S16384x2x4x128_S16384x8x128
/-- the scores; -/
def scores (q : FVec Ideal S512x8x128 .f32) (k : FVec Ideal S16384x8x128 .f32) : FVec Ideal S8x512x16384 .f32 :=
  Host.divf (extf .f32 (truncf .bf16 (Host.dotGeneral dot_S512x8x128_S16384x8x128_S8x512x16384_2_2_0_0_1_1 none q k)
    bitsLt_bf16_f32) bitsLt_bf16_f32) (broadcastInDim S8x512x16384 ![] bcast_S_S8x512x16384 (Host.sqrt (constant S_ .f32 0x43000000#32)))
/-- the largest score of each row; -/
def tops (s : FVec Ideal S8x512x16384 .f32) : FVec Ideal S8x512x1 .f32 :=
  broadcastInDim S8x512x1 ![0, 1] bcast_S8x512_S8x512x1_0_1
    (Host.reduce FloatOps.maximumf s (constant S_ .f32 0xFF800000#32) reducesTo_S8x512x16384_S8x512_d2 h_S_)
/-- zero in place of an infinite one; -/
def shifts (t : FVec Ideal S8x512x1 .f32) : FVec Ideal S8x512x1 .f32 :=
  select (cmpf .oeq t (broadcastInDim S8x512x1 ![] bcast_S_S8x512x1 (constant S_ .f32 0x7F800000#32)))
    (broadcastInDim S8x512x1 ![] bcast_S_S8x512x1 (constant S_ .f32 0x00000000#32)) t
/-- the exponentials; -/
def exps (s : FVec Ideal S8x512x16384 .f32) (t : FVec Ideal S8x512x1 .f32) : FVec Ideal S8x512x16384 .f32 :=
  Host.exp (subf s (broadcastInDim S8x512x16384 ![0, 1, 2] bcast_S8x512x1_S8x512x16384_0_1_2 t))
/-- the quotients; -/
def quotients (v : FVec Ideal S16384x8x128 .f32) (p : FVec Ideal S8x512x16384 .f32) : FVec Ideal S512x8x128 .f32 :=
  Host.divf (transpose S512x8x128 [2, 0, 1] (Host.dotGeneral dot_S16384x8x128_S8x512x16384_S8x128x512_0_2_2_1_1_0 none v p)
      transposes_S8x128x512_S512x8x128_2_0_1)
    (broadcastInDim S512x8x128 ![0, 1, 2] bcast_S512x8x1_S512x8x128_0_1_2 (transpose S512x8x1 [1, 0, 2]
      (broadcastInDim S8x512x1 ![0, 1] bcast_S8x512_S8x512x1_0_1
        (Host.reduceAdd p (constant S_ .f32 0x00000000#32) reducesTo_S8x512x16384_S8x512_d2 h_S_)) transposes_S8x512x1_S512x8x1_1_0_2))
/-- and their projection. -/
def projected (a : FVec Ideal S512x8x128 .f32) (wo : FVec Ideal S1024x1024 .bf16) : FVec Ideal S512x1024 .f32 :=
  Host.dotGeneral dot_S512x1024_S1024x1024_S512x1024_1_0_0_1_n_n none (shapeCast _ a shapeCasts_S512x8x128_S512x1024) (extf .f32 wo bitsLt_bf16_f32)

/-- The divisor of the scores. -/
theorem sqrt_128 : Ideal.sqrt (Ideal.ofBits FTy.f32 1124073472#32) = ((Real.sqrt 128 : ℝ) : EReal) := by
  rw [Cert.Softmax.ofBits_128, Ideal.sqrt_coe, if_neg (by norm_num)]

/-- Each stage at an index: the queries, -/
theorem queries_at (x : FVec Ideal S512x1024 .bf16) (wq : FVec Ideal S1024x1024 .bf16) (i : Fin 512) (h : Fin 8) (d : Fin 128) :
    queries x wq (ix3 i h d) = ∑ k : Fin 1024, x (ix2 i k) * wq (ix2 k (headCol h d)) := by
  pointwise [queries]
  simp only [headCol_mk]

/-- the repeated keys or values, -/
theorem repeated_at (k : FVec Ideal S16384x256 .bf16) (j : Fin 16384) (h : Fin 8) (d : Fin 128) :
    repeated k (ix3 j h d) = k (ix2 j (keyCol h d)) := by
  pointwise [repeated]
  simp only [keyCol_mk]

/-- the scores, -/
theorem scores_at (q : FVec Ideal S512x8x128 .f32) (k : FVec Ideal S16384x8x128 .f32) (h : Fin 8) (i : Fin 512) (j : Fin 16384) :
    scores q k (ix3 h i j) = Ideal.div (∑ d : Fin 128, q (ix3 i h d) * k (ix3 j h d)) ((Real.sqrt 128 : ℝ) : EReal) := by
  pointwise [scores]
  rw [sqrt_128]

/-- the largest one, -/
theorem tops_at (s : FVec Ideal S8x512x16384 .f32) (h : Fin 8) (i : Fin 512) (u : Fin 1) :
    tops s (ix3 h i u) = Finset.univ.fold max ⊥ fun j : Fin 16384 => s (ix3 h i j) := by
  pointwise [tops]
  rw [Cert.Softmax.ofBits_neg_inf]

/-- what is taken off, -/
theorem shifts_at (t : FVec Ideal S8x512x1 .f32) (h : Fin 8) (i : Fin 512) (u : Fin 1) :
    shifts t (ix3 h i u) = if t (ix3 h i u) = ⊤ then 0 else t (ix3 h i u) := by
  pointwise [shifts]
  rw [Cert.Softmax.ofBits_inf]

/-- the exponentials, -/
theorem exps_at (s : FVec Ideal S8x512x16384 .f32) (t : FVec Ideal S8x512x1 .f32) (h : Fin 8) (i : Fin 512) (j : Fin 16384) :
    exps s t (ix3 h i j) = Ideal.exp (s (ix3 h i j) - t (ix3 h i 0)) := by
  pointwise [exps]

/-- the quotients, -/
theorem quotients_at (v : FVec Ideal S16384x8x128 .f32) (p : FVec Ideal S8x512x16384 .f32) (i : Fin 512) (h : Fin 8) (e : Fin 128) :
    quotients v p (ix3 i h e) = Ideal.div (∑ j : Fin 16384, v (ix3 j h e) * p (ix3 h i j)) (∑ j : Fin 16384, p (ix3 h i j)) := by
  pointwise [quotients]

/-- and the projection. -/
theorem projected_at (a : FVec Ideal S512x8x128 .f32) (wo : FVec Ideal S1024x1024 .bf16) (i : Fin 512) (n : Fin 1024) :
    projected a wo (ix2 i n) = ∑ h : Fin 8, ∑ e : Fin 128, a (ix3 i h e) * wo (ix2 (headCol h e) n) := by
  pointwise [projected]
  rw [sum_heads]
  simp only [headCol_div, headCol_mod]

/-! ## The result -/

/-- The reference's arguments as matrices: the input, the two weights, and all keys and values. -/
def X (i : Fin 512) (k : Fin 1024) : EReal := m (c.tc.loc main_arg0) (ix2 i k)
def Wq (k e : Fin 1024) : EReal := m (c.tc.loc main_arg1) (ix2 k e)
def Wo (e n : Fin 1024) : EReal := m (c.tc.loc main_arg2) (ix2 e n)
def K (j : Fin 16384) (e : Fin 256) : EReal := m (c.tc.loc main_arg3) (ix2 j e)
def V (j : Fin 16384) (e : Fin 256) : EReal := m (c.tc.loc main_arg4) (ix2 j e)

/-- The score of key `j` for head `h`, -/
def score (h : Fin 8) (i : Fin 512) (j : Fin 16384) : EReal :=
  Ideal.div (∑ d : Fin 128, (∑ k : Fin 1024, X m c i k * Wq m c k (headCol h d)) * K m c j (keyCol h d))
    ((Real.sqrt 128 : ℝ) : EReal)
/-- the largest one, -/
def top (h : Fin 8) (i : Fin 512) : EReal := Finset.univ.fold max ⊥ (score m c h i)

/-- the reference's attention, -/
def attn (h : Fin 8) (i : Fin 512) (e : Fin 128) : EReal :=
  Ideal.div (∑ j : Fin 16384, V m c j (keyCol h e) * Ideal.exp (score m c h i j - if top m c h i = ⊤ then 0 else top m c h i))
    (∑ j : Fin 16384, Ideal.exp (score m c h i j - if top m c h i = ⊤ then 0 else top m c h i))

/-- The result is the stages, one after the other, -/
theorem res_eq : Cert.ReferenceIdeal.Value.res_main_v37 m c
    = projected (quotients (repeated (m (c.tc.loc main_arg4)))
        (exps (scores (queries (m (c.tc.loc main_arg0)) (m (c.tc.loc main_arg1))) (repeated (m (c.tc.loc main_arg3))))
          (shifts (tops (scores (queries (m (c.tc.loc main_arg0)) (m (c.tc.loc main_arg1))) (repeated (m (c.tc.loc main_arg3))))))))
        (m (c.tc.loc main_arg2)) := rfl

/-- and its projection. -/
theorem res_at (i : Fin 512) (n : Fin 1024) : Cert.ReferenceIdeal.Value.res_main_v37 m c (ix2 i n)
    = ∑ h : Fin 8, ∑ e : Fin 128, attn m c h i e * Wo m c (headCol h e) n := by
  rw [res_eq, projected_at]
  simp only [quotients_at, exps_at, shifts_at, tops_at, scores_at, queries_at, repeated_at]
  rfl

/-- The attention needs no largest score. -/
theorem attn_eq (h : Fin 8) (i : Fin 512) (e : Fin 128) : attn m c h i e
    = Ideal.div (∑ j, V m c j (keyCol h e) * Ideal.exp (score m c h i j)) (∑ j, Ideal.exp (score m c h i j)) :=
  Cert.Softmax.softmax_eq (score m c h i) (fun j => V m c j (keyCol h e)) _ (Cert.Softmax.le_fold_max _)

end Cert.Ref

end
-- ==== Proof.Algebraic.lean ====
/-
# The kernel computes the reference

On the extended reals every device's result array is the reference's: the kernel adds the devices' partial sums in ring
order, each device starting at itself, and takes no largest score off; the reference sums over all keys at once.
-/
module

public import proofs.«01_k».proof.Proof.KernelValue
public import proofs.«01_k».proof.Proof.RefValue
public import proofs.«01_k».proof.Proof.Frames
public import Idealize.ShloMosaic.Lib.LayoutAt
public import Idealize.ShloMosaic.Lib.Quiescent

@[expose] public section

noncomputable section

namespace Cert.Proof

open Idealize.ShloMosaic Idealize.ShloMosaic.TcCoe Idealize.SL.Sem Cert.Attn

/-- A sum over the devices up the ring from `c` is the sum over all devices. -/
theorem sum_up (c : Dev Cert.KernelIdeal.nD) (f : Fin 8 → EReal) : ∑ p : Fin 8, f (up c p) = ∑ h, f h :=
  (Finset.sum_congr rfl fun p _ => congrArg f (Fin.ext (Fin.val_add c p).symm)).trans (Cert.Softmax.sum_ring f c)

section
variable {m : (ℓ : Loc Cert.KernelIdeal.nD Cert.KernelIdeal.τ Cert.KernelIdeal.sig) → Buf (Elt Ideal) ℓ}
  {ρ : Dev Cert.KernelIdeal.nD → PrngReg}
  {m' : (ℓ : Loc Cert.ReferenceIdeal.nD Cert.ReferenceIdeal.τ Cert.ReferenceIdeal.sig) → Buf (Elt Ideal) ℓ}

/-- The kernel's arguments at every device are the reference's: the input and the weights whole, the keys and values cut
    into the devices' blocks. -/
structure Same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop where
  x : ∀ c i k, Attn.X m c i k = Ref.X m' 0 i k
  wq : ∀ c k e, Attn.Wq m c k e = Ref.Wq m' 0 k e
  wo : ∀ c e n, Attn.Wo m c e n = Ref.Wo m' 0 e n
  ks : ∀ c j e, Attn.Ks m c j e = Ref.K m' 0 (keyRow c j) e
  vs : ∀ c j e, Attn.Vs m c j e = Ref.V m' 0 (keyRow c j) e

/-- A device's score of its own key is the reference's score of that key. -/
theorem Same.score (H : Same m m') (c : Dev Cert.KernelIdeal.nD) (h : Fin 8) (i : Fin 512) (j : Fin 2048) :
    Attn.score m c h i j = Ref.score m' 0 h i (keyRow c j) := by
  unfold Attn.score Attn.Q Ref.score
  simp only [H.x, H.wq, H.ks]
  exact Cert.Softmax.score_eq (Ref.X m' 0 i) (fun k d => Ref.Wq m' 0 k (headCol h d)) fun d => Ref.K m' 0 (keyRow c j) (keyCol h d)

/-- The quotient a device forms is the reference's attention for the device's head. -/
theorem Same.quotient (H : Same m m') (h : Dev Cert.KernelIdeal.nD) (u : Fin 1) (e : Fin 128) (i : Fin 512) :
    Ac m ρ h (ix3 u e i) = Ref.attn m' 0 h i e := by
  rw [Ac_at, Ref.attn_eq]
  simp only [H.score, H.vs]
  rw [sum_up h fun p => ∑ j, Ref.V m' 0 (keyRow p j) (keyCol h e) * Ideal.exp (Ref.score m' 0 h i (keyRow p j)),
    sum_up h fun p => ∑ j, Ideal.exp (Ref.score m' 0 h i (keyRow p j)), sum_keys, sum_keys]

/-- The block a device writes out is the reference's result. -/
theorem Same.out (H : Same m m') (c : Dev Cert.KernelIdeal.nD) : outc m ρ c = Cert.ReferenceIdeal.Value.res_main_v37 m' 0 := by
  funext y
  obtain ⟨i, n, rfl⟩ : ∃ (i : Fin 512) (n : Fin 1024), y = ix2 i n := ⟨y 0, y 1, eq_ix2 y⟩
  refine (outc_at m ρ c i n).trans (Eq.trans ?_ (Ref.res_at m' 0 i n).symm)
  simp only [H.quotient, H.wo]
  exact sum_up c fun h => ∑ e, Ref.attn m' 0 h i e * Ref.Wo m' 0 (headCol h e) n

end

/-- The reference runs, keeps its arguments, and has no counters. -/
theorem frame_ri : Cert.quiescent_ReferenceIdeal (hReferenceIdeal := Cert.ReferenceIdeal.Gen.facts) := fun m g _ =>
  θ_run_mono (Cert.ReferenceIdeal.Value.run m g) fun r h => ⟨fun c => (h c).2, sem_eq_zero_of_no_sems rfl r.2⟩

/-- From arguments that agree, every device's result array ends as the reference's result. -/
theorem algebraic : Cert.algebraic_KernelIdeal_ReferenceIdeal (hKernelIdeal := Cert.KernelIdeal.Gen.facts)
    (hReferenceIdeal := Cert.ReferenceIdeal.Gen.facts) := fun m g m' g' _ hm => by
  have H : Same m m' :=
    { x := fun c i k => congrFun (hm c).1 _
      wq := fun c k e => congrFun (hm c).2.1 _
      wo := fun c e n => congrFun (hm c).2.2.1 _
      ks := fun c j e => (congrFun (hm c).2.2.2.1 (ix2 j e)).trans (by unfold Ref.K keyRow; shard_ext)
      vs := fun c j e => (congrFun (hm c).2.2.2.2 (ix2 j e)).trans (by unfold Ref.V keyRow; shard_ext) }
  exact ⟨Cert.ReferenceIdeal.Value.res_main_v37 m' 0,
    θ_run_mono (run_args m g) fun r h c => ⟨(h.1 c).1.trans ((finalA_out m g c).trans (H.out c)), (h.1 c).2⟩,
    θ_run_mono (Cert.ReferenceIdeal.Value.run m' g') fun r h => h 0⟩

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Algebraic

@[expose] public section

noncomputable section

namespace Cert.Proof

/-- Everything that is claimed of the kernel, its idealization and the reference. -/
theorem claim : Cert.Claim :=
  ⟨Cert.Kernel.Gen.facts, Cert.KernelIdeal.Gen.facts, Cert.ReferenceIdeal.Gen.facts, frame_p, frame_pi, frame_ri, preserves, algebraic⟩

end Cert.Proof

end
